-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S2x8448x512 : Shape := ⟨3, ![2, 8448, 512]⟩
abbrev S1x64 : Shape := ⟨2, ![1, 64]⟩
abbrev S1x128 : Shape := ⟨2, ![1, 128]⟩
abbrev S_ : Shape := ⟨0, ![]⟩

class Facts : Prop where
  bcast_S_S2x8448x512 : S_.BroadcastsInDim S2x8448x512 (![] : Fin 0 → Fin S2x8448x512.rank)
  bcast_S_S1x64 : S_.BroadcastsInDim S1x64 (![] : Fin 0 → Fin S1x64.rank)

variable [Facts]

def fn_part1 {F : FTy → Type} [FloatOps F] (main_arg6 : FVec F S1x64 .f32) (main_v2 : IVec S2x8448x512 1) (main_v5 : IVec S2x8448x512 1) (main_v8 : IVec S2x8448x512 1) (main_v11 : IVec S1x64 1) (main_v14 : IVec S1x64 1) (main_v17 : IVec S1x64 1) : IVec S2x8448x512 1 × IVec S2x8448x512 1 × IVec S2x8448x512 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S2x8448x512 .f32) (main_arg1 : FVec F S2x8448x512 .f32) (main_arg2 : FVec F S2x8448x512 .f32) (main_arg3 : FVec F S1x64 .f32) (main_arg4 : FVec F S1x64 .f32) (main_arg5 : FVec F S1x64 .f32) (main_arg6 : FVec F S1x64 .f32) (main_arg7 : FVec F S1x128 .f32) : IVec S2x8448x512 1 × IVec S2x8448x512 1 × IVec S2x8448x512 1 × IVec S1x64 1 × IVec S1x64 1 × IVec S1x64 1 × IVec S1x64 1 :=
  let main_v0 : FVec F S2x8448x512 .f32 := Host.absf main_arg0
  let main_cst : FVec F S_ .f32 := constant S_ .f32 0x7F800000#32
  let main_v1 : FVec F S2x8448x512 .f32 := broadcastInDim S2x8448x512 ![] bcast_S_S2x8448x512 main_cst
  let main_v2 : IVec S2x8448x512 1 := cmpf .olt main_v0 main_v1
  let main_v3 : FVec F S2x8448x512 .f32 := Host.absf main_arg1
  let main_cst_0 : FVec F S_ .f32 := constant S_ .f32 0x7F800000#32
  let main_v4 : FVec F S2x8448x512 .f32 := broadcastInDim S2x8448x512 ![] bcast_S_S2x8448x512 main_cst_0
  let main_v5 : IVec S2x8448x512 1 := cmpf .olt main_v3 main_v4
  let main_v6 : FVec F S2x8448x512 .f32 := Host.absf main_arg2
  let main_cst_1 : FVec F S_ .f32 := constant S_ .f32 0x7F800000#32
  let main_v7 : FVec F S2x8448x512 .f32 := broadcastInDim S2x8448x512 ![] bcast_S_S2x8448x512 main_cst_1
  let main_v8 : IVec S2x8448x512 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Kernel.lean ====
abbrev S2x8448x512 : Shape := ⟨3, ![2, 8448, 512]⟩
abbrev S1x64 : Shape := ⟨2, ![1, 64]⟩
abbrev S1x128 : Shape := ⟨2, ![1, 128]⟩
abbrev S_ : Shape := ⟨0, ![]⟩
abbrev S2x8448x128 : Shape := ⟨3, ![2, 8448, 128]⟩
abbrev S2x8448x1024 : Shape := ⟨3, ![2, 8448, 1024]⟩
abbrev S64 : Shape := ⟨1, ![64]⟩
abbrev S4x64 : Shape := ⟨2, ![4, 64]⟩
abbrev S4x128 : Shape := ⟨2, ![4, 128]⟩
abbrev S8x128 : Shape := ⟨2, ![8, 128]⟩
abbrev S128 : Shape := ⟨1, ![128]⟩
abbrev S2x8192x512 : Shape := ⟨3, ![2, 8192, 512]⟩
abbrev S1x512x128 : Shape := ⟨3, ![1, 512, 128]⟩
abbrev S1x8448x128 : Shape := ⟨3, ![1, 8448, 128]⟩
abbrev S1x8448x256 : Shape := ⟨3, ![1, 8448, 256]⟩
abbrev S1024x128 : Shape := ⟨2, ![1024, 128]⟩
abbrev S1024x256 : Shape := ⟨2, ![1024, 256]⟩
abbrev S1024x768 : Shape := ⟨2, ![1024, 768]⟩
abbrev S512x128 : Shape := ⟨2, ![512, 128]⟩
abbrev S1x768x128 : Shape := ⟨3, ![1, 768, 128]⟩
abbrev S768x128 : Shape := ⟨2, ![768, 128]⟩
abbrev S1024 : Shape := ⟨1, ![1024]⟩
abbrev S1024x1 : Shape := ⟨2, ![1024, 1]⟩
abbrev S1x768x256 : Shape := ⟨3, ![1, 768, 256]⟩
abbrev S768x256 : Shape := ⟨2, ![768, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 42
  | .vmem => 15
  | .smem => 0
  | _ => 0

abbrev bufTy : (tb : Table) → Fin (tcTables nBuf tb) → BufTy
  | .hbm, ⟨0, _⟩ => ⟨S2x8448x512, .f32⟩
  | .hbm, ⟨1, _⟩ => ⟨S2x8448x512, .f32⟩
  | .hbm, ⟨2, _⟩ => ⟨S2x8448x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8448x512, .f32⟩
  | .hbm, ⟨13, _⟩ => ⟨S2x8448x512, .f32⟩
  | .hbm, ⟨14, _⟩ => ⟨S2x8448x512, .bf16⟩
  | .hbm, ⟨15, _⟩ => ⟨S2x8448x512, .bf16⟩
  | .hbm, ⟨16, _⟩ => ⟨S_, .bf16⟩
  | .hbm, ⟨17, _⟩ => ⟨S2x8448x128, .bf16⟩
  | .hbm, ⟨18, _⟩ => ⟨S2x8448x128, .bf16⟩
  | .hbm, ⟨19, _⟩ => ⟨S2x8448x128, .bf16⟩
  | .hbm, ⟨20, _⟩ => ⟨S2x8448x128, .bf16⟩
  | .hbm, ⟨21, _⟩ => ⟨S2x8448x128, .bf16⟩
  | .hbm, ⟨22, _⟩ => ⟨S2x8448x1024, .bf16⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S4x64, .f32⟩
  | .hbm, ⟨32, _⟩ => ⟨S_, .i32⟩
  | .hbm, ⟨33, _⟩ => ⟨S_, .f32⟩
  | .hbm, ⟨34, _⟩ => ⟨S4x128, .f32⟩
  | .hbm, ⟨35, _⟩ => ⟨S_, .i32⟩
  | .hbm, ⟨36, _⟩ => ⟨S_, .f32⟩
  | .hbm, ⟨37, _⟩ => ⟨S8x128, .f32⟩
  | .hbm, ⟨38, _⟩ => ⟨S128, .f32⟩
  | .hbm, ⟨39, _⟩ => ⟨S1x128, .f32⟩
  | .hbm, ⟨40, _⟩ => ⟨S2x8448x512, .bf16⟩
  | .hbm, ⟨41, _⟩ => ⟨S2x8192x512, .bf16⟩
  | .local _ .vmem, ⟨0, _⟩ => ⟨S8x128, .f32⟩
  | .local _ .vmem, ⟨1, _⟩ => ⟨S1x128, .f32⟩
  | .local _ .vmem, ⟨2, _⟩ => ⟨S1x512x128, .bf16⟩
  | .local _ .vmem, ⟨3, _⟩ => ⟨S1x512x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x8448x256, .bf16⟩
  | .local _ .vmem, ⟨7, _⟩ => ⟨S1x8448x256, .bf16⟩
  | .local _ .vmem, ⟨8, _⟩ => ⟨S1x512x128, .bf16⟩
  | .local _ .vmem, ⟨9, _⟩ => ⟨S1x512x128, .bf16⟩
  | .local _ .vmem, ⟨10, _⟩ => ⟨S1024x128, .bf16⟩
  | .local _ .vmem, ⟨11, _⟩ => ⟨S1024x128, .f32⟩
  | .local _ .vmem, ⟨12, _⟩ => ⟨S1024x256, .f32⟩
  | .local _ .vmem, ⟨13, _⟩ => ⟨S1024x768, .f32⟩
  | .local _ .vmem, ⟨14, _⟩ => ⟨S1024x768, .f32⟩
  | _, _ => ⟨S2x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_v21 : Ref sig .tc := ⟨.hbm, 34, rfl⟩
abbrev main_c_2 : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32 : BitVec 32 := 0#32
  c0_i32
def k0_mult2 : BitVec 32 :=
  let c768_i32 : BitVec 32 := 768#32
  c768_i32
def k0_mult3 : BitVec 32 :=
  let c0_i32_26 : BitVec 32 := 0#32
  c0_i32_26
def k0_mult4 : BitVec 32 :=
  let c1536_i32 : BitVec 32 := 1536#32
  c1536_i32
def k0_mult5 : BitVec 32 :=
  let c768_i32_51 : BitVec 32 := 768#32
  c768_i32_51
def k0_mult6 : BitVec 32 :=
  let c2304_i32 : BitVec 32 := 2304#32
  c2304_i32
def k0_mult7 : BitVec 32 :=
  let c1536_i32_77 : BitVec 32 := 1536#32
  c1536_i32_77
def k0_mult8 : BitVec 32 :=
  let c3072_i32 : BitVec 32 := 3072#32
  c3072_i32
def k0_mult9 : BitVec 32 :=
  let c2304_i32_103 : BitVec 32 := 2304#32
  c2304_i32_103
def k0_mult10 : BitVec 32 :=
  let c3840_i32 : BitVec 32 := 3840#32
  c3840_i32
def k0_mult11 : BitVec 32 :=
  let c3072_i32_129 : BitVec 32 := 3072#32
  c3072_i32_129
def k0_mult12 : BitVec 32 :=
  let c4608_i32 : BitVec 32 := 4608#32
  c4608_i32
def k0_mult13 : BitVec 32 :=
  let c3840_i32_155 : BitVec 32 := 3840#32
  c3840_i32_155
def k0_mult14 : BitVec 32 :=
  let c5376_i32 : BitVec 32 := 5376#32
  c5376_i32
def k0_mult15 : BitVec 32 :=
  let c4608_i32_181 : BitVec 32 := 4608#32
  c4608_i32_181
def k0_mult16 : BitVec 32 :=
  let c6144_i32 : BitVec 32 := 6144#32
  c6144_i32
def k0_mult17 : BitVec 32 :=
  let c5376_i32_207 : BitVec 32 := 5376#32
  c5376_i32_207
def k0_mult18 : BitVec 32 :=
  let c6912_i32 : BitVec 32 := 6912#32
  c6912_i32
def k0_mult19 : BitVec 32 :=
  let c6144_i32_233 : BitVec 32 := 6144#32
  c6144_i32_233
def k0_mult20 : BitVec 32 :=
  let c7680_i32 : BitVec 32 := 7680#32
  c7680_i32
def k0_mult21 : BitVec 32 :=
  let c6912_i32_259 : BitVec 32 := 6912#32
  c6912_i32_259
def k0_mult22 : BitVec 32 :=
  let c7680_i32_278 : BitVec 32 := 7680#32
  c7680_i32_278
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8448x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8448x512 : Shape := ⟨3, ![2, 8448, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S2x8192x512 : Shape := ⟨3, ![2, 8192, 512]⟩
abbrev S2x8192x4x2x64 : Shape := ⟨5, ![2, 8192, 4, 2, 64]⟩
abbrev S2x4x2x8192x64 : Shape := ⟨5, ![2, 4, 2, 8192, 64]⟩
abbrev S2x8448x4x2x64 : Shape := ⟨5, ![2, 8448, 4, 2, 64]⟩
abbrev S2x4x2x8448x64 : Shape := ⟨5, ![2, 4, 2, 8448, 64]⟩
abbrev S2x8448x4x128 : Shape := ⟨4, ![2, 8448, 4, 128]⟩
abbrev S2x4x8448x128 : Shape := ⟨4, ![2, 4, 8448, 128]⟩
abbrev S2x4x2x8192x8448 : Shape := ⟨5, ![2, 4, 2, 8192, 8448]⟩
abbrev S2x4x2x8192 : Shape := ⟨4, ![2, 4, 2, 8192]⟩
abbrev S2x4x2x8192x1 : Shape := ⟨5, ![2, 4, 2, 8192, 1]⟩
abbrev S2x4x1x8192x8448 : Shape := ⟨5, ![2, 4, 1, 8192, 8448]⟩
abbrev S2x4x8192x8448 : Shape := ⟨4, ![2, 4, 8192, 8448]⟩
abbrev S2x4x8192x128 : Shape := ⟨4, ![2, 4, 8192, 128]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x8448x512, .f32⟩
  | .hbm, ⟨1, _⟩ => ⟨S2x8448x512, .f32⟩
  | .hbm, ⟨2, _⟩ => ⟨S2x8448x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x8192x512, .f32⟩
  | .hbm, ⟨24, _⟩ => ⟨S2x8192x4x2x64, .f32⟩
  | .hbm, ⟨25, _⟩ => ⟨S2x4x2x8192x64, .f32⟩
  | .hbm, ⟨26, _⟩ => ⟨S2x8448x4x2x64, .f32⟩
  | .hbm, ⟨27, _⟩ => ⟨S2x4x2x8448x64, .f32⟩
  | .hbm, ⟨28, _⟩ => ⟨S2x8448x4x128, .f32⟩
  | .hbm, ⟨29, _⟩ => ⟨S2x4x8448x128, .f32⟩
  | .hbm, ⟨30, _⟩ => ⟨S2x4x2x8192x8448, .f32⟩
  | .hbm, ⟨31, _⟩ => ⟨S_, .f32⟩
  | .hbm, ⟨32, _⟩ => ⟨S2x4x2x8192x8448, .f32⟩
  | .hbm, ⟨33, _⟩ => ⟨S2x4x2x8192x8448, .f32⟩
  | .hbm, ⟨34, _⟩ => ⟨S_, .f32⟩
  | .hbm, ⟨35, _⟩ => ⟨S2x4x2x8192, .f32⟩
  | .hbm, ⟨36, _⟩ => ⟨S_, .f32⟩
  | .hbm, ⟨37, _⟩ => ⟨S2x4x2x8192, .f32⟩
  | .hbm, ⟨38, _⟩ => ⟨S2x4x2x8192, .f32⟩
  | .hbm, ⟨39, _⟩ => ⟨S2x4x2x8192x1, .f32⟩
  | .hbm, ⟨40, _⟩ => ⟨S2x4x2x8192x8448, .f32⟩
  | .hbm, ⟨41, _⟩ => ⟨S2x4x2x8192x8448, .f32⟩
  | .hbm, ⟨42, _⟩ => ⟨S2x4x2x8192x8448, .f32⟩
  | .hbm, ⟨43, _⟩ => ⟨S_, .f32⟩
  | .hbm, ⟨44, _⟩ => ⟨S2x4x2x8192, .f32⟩
  | .hbm, ⟨45, _⟩ => ⟨S2x4x2x8192x1, .f32⟩
  | .hbm, ⟨46, _⟩ => ⟨S2x4x2x8192x8448, .f32⟩
  | .hbm, ⟨47, _⟩ => ⟨S2x4x2x8192x8448, .f32⟩
  | .hbm, ⟨48, _⟩ => ⟨S2x4x1x8192x8448, .f32⟩
  | .hbm, ⟨49, _⟩ => ⟨S2x4x8192x8448, .f32⟩
  | .hbm, ⟨50, _⟩ => ⟨S2x4x1x8192x8448, .f32⟩
  | .hbm, ⟨51, _⟩ => ⟨S2x4x8192x8448, .f32⟩
  | .hbm, ⟨52, _⟩ => ⟨S2x4x8192x8448, .f32⟩
  | .hbm, ⟨53, _⟩ => ⟨S2x4x8192x8448, .f32⟩
  | .hbm, ⟨54, _⟩ => ⟨S2x4x8192x8448, .f32⟩
  | .hbm, ⟨55, _⟩ => ⟨S2x4x8192x128, .f32⟩
  | .hbm, ⟨56, _⟩ => ⟨S2x8192x4x128, .f32⟩
  | .hbm, ⟨57, _⟩ => ⟨S2x8192x4x128, .f32⟩
  | .hbm, ⟨58, _⟩ => ⟨S_, .f32⟩
  | .hbm, ⟨59, _⟩ => ⟨S2x8192x4, .f32⟩
  | .hbm, ⟨60, _⟩ => ⟨S2x8192x4x1, .f32⟩
  | .hbm, ⟨61, _⟩ => ⟨S_, .f32⟩
  | .hbm, ⟨62, _⟩ => ⟨S2x8192x4x1, .f32⟩
  | .hbm, ⟨63, _⟩ => ⟨S2x8192x4x1, .f32⟩
  | .hbm, ⟨64, _⟩ => ⟨S_, .f32⟩
  | .hbm, ⟨65, _⟩ => ⟨S2x8192x4x1, .f32⟩
  | .hbm, ⟨66, _⟩ => ⟨S2x8192x4x1, .f32⟩
  | .hbm, ⟨67, _⟩ => ⟨S2x8192x4x1, .f32⟩
  | .hbm, ⟨68, _⟩ => ⟨S2x8192x4x128, .f32⟩
  | .hbm, ⟨69, _⟩ => ⟨S2x8192x4x128, .f32⟩
  | .hbm, ⟨70, _⟩ => ⟨S128, .f32⟩
  | .hbm, ⟨71, _⟩ => ⟨S1x1x1x128, .f32⟩
  | .hbm, ⟨72, _⟩ => ⟨S2x8192x4x128, .f32⟩
  | .hbm, ⟨73, _⟩ => ⟨S2x8192x4x128, .f32⟩
  | .hbm, ⟨74, _⟩ => ⟨S_, .f32⟩
  | .hbm, ⟨75, _⟩ => ⟨S2x8192x4x128, .f32⟩
  | .hbm, ⟨76, _⟩ => ⟨S2x8192x4x128, .f32⟩
  | .hbm, ⟨77, _⟩ => ⟨S2x8192x512, .f32⟩
  | .hbm, ⟨78, _⟩ => ⟨S2x8192x512, .bf16⟩
  | _, _ => ⟨S2x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel2.lean ====
abbrev S22528x1024 : Shape := ⟨2, ![22528, 1024]⟩
abbrev S24x128 : Shape := ⟨2, ![24, 128]⟩
abbrev S2x16x1024x512 : Shape := ⟨4, ![2, 16, 1024, 512]⟩
abbrev S2x16x512x1024 : Shape := ⟨4, ![2, 16, 512, 1024]⟩
abbrev S24 : Shape := ⟨1, ![24]⟩
abbrev S24x1 : Shape := ⟨2, ![24, 1]⟩
abbrev S_ : Shape := ⟨0, ![]⟩
abbrev S88 : Shape := ⟨1, ![88]⟩
abbrev S88x1 : Shape := ⟨2, ![88, 1]⟩
abbrev S1x24 : Shape := ⟨2, ![1, 24]⟩
abbrev S88x24 : Shape := ⟨2, ![88, 24]⟩
abbrev S1 : Shape := ⟨1, ![1]⟩
abbrev S22528x2048 : Shape := ⟨2, ![22528, 2048]⟩
abbrev S256x1024 : Shape := ⟨2, ![256, 1024]⟩
abbrev S1x1x1024x512 : Shape := ⟨4, ![1, 1, 1024, 512]⟩
abbrev S1x1x512x1024 : Shape := ⟨4, ![1, 1, 512, 1024]⟩
abbrev S256x2048 : Shape := ⟨2, ![256, 2048]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 66
  | .vmem => 16
  | .smem => 3
  | _ => 0

abbrev bufTy : (tb : Table) → Fin (tcTables nBuf tb) → BufTy
  | .hbm, ⟨0, _⟩ => ⟨S22528x1024, .f32⟩
  | .hbm, ⟨1, _⟩ => ⟨S24x128, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S24, .i32⟩
  | .hbm, ⟨6, _⟩ => ⟨S24, .i32⟩
  | .hbm, ⟨7, _⟩ => ⟨S24x1, .f32⟩
  | .hbm, ⟨8, _⟩ => ⟨S24, .f32⟩
  | .hbm, ⟨9, _⟩ => ⟨S24, .i32⟩
  | .hbm, ⟨10, _⟩ => ⟨S_, .i32⟩
  | .hbm, ⟨11, _⟩ => ⟨S24, .i32⟩
  | .hbm, ⟨12, _⟩ => ⟨S24, .i32⟩
  | .hbm, ⟨13, _⟩ => ⟨S_, .i32⟩
  | .hbm, ⟨14, _⟩ => ⟨S24, .i32⟩
  | .hbm, ⟨15, _⟩ => ⟨S24, .i32⟩
  | .hbm, ⟨16, _⟩ => ⟨S_, .i32⟩
  | .hbm, ⟨17, _⟩ => ⟨S_, .i32⟩
  | .hbm, ⟨18, _⟩ => ⟨S24, .i32⟩
  | .hbm, ⟨19, _⟩ => ⟨S24, .i32⟩
  | .hbm, ⟨20, _⟩ => ⟨S24, .i32⟩
  | .hbm, ⟨21, _⟩ => ⟨S_, .i32⟩
  | .hbm, ⟨22, _⟩ => ⟨S24, .i32⟩
  | .hbm, ⟨23, _⟩ => ⟨S24, .i1⟩
  | .hbm, ⟨24, _⟩ => ⟨S24, .i32⟩
  | .hbm, ⟨25, _⟩ => ⟨S24, .i32⟩
  | .hbm, ⟨26, _⟩ => ⟨S_, .i32⟩
  | .hbm, ⟨27, _⟩ => ⟨S24, .i32⟩
  | .hbm, ⟨28, _⟩ => ⟨S24, .i1⟩
  | .hbm, ⟨29, _⟩ => ⟨S24, .i1⟩
  | .hbm, ⟨30, _⟩ => ⟨S_, .i32⟩
  | .hbm, ⟨31, _⟩ => ⟨S24, .i32⟩
  | .hbm, ⟨32, _⟩ => ⟨S24, .i32⟩
  | .hbm, ⟨33, _⟩ => ⟨S24, .i32⟩
  | .hbm, ⟨34, _⟩ => ⟨S_, .i32⟩
  | .hbm, ⟨35, _⟩ => ⟨S_, .i32⟩
  | .hbm, ⟨36, _⟩ => ⟨S24, .i32⟩
  | .hbm, ⟨37, _⟩ => ⟨S88, .i32⟩
  | .hbm, ⟨38, _⟩ => ⟨S88x1, .i32⟩
  | .hbm, ⟨39, _⟩ => ⟨S1x24, .i32⟩
  | .hbm, ⟨40, _⟩ => ⟨S88x24, .i32⟩
  | .hbm, ⟨41, _⟩ => ⟨S88x24, .i32⟩
  | .hbm, ⟨42, _⟩ => ⟨S88x24, .i1⟩
  | .hbm, ⟨43, _⟩ => ⟨S88x24, .i32⟩
  | .hbm, ⟨44, _⟩ => ⟨S_, .i32⟩
  | .hbm, ⟨45, _⟩ => ⟨S88, .i32⟩
  | .hbm, ⟨46, _⟩ => ⟨S_, .i32⟩
  | .hbm, ⟨47, _⟩ => ⟨S88, .i32⟩
  | .hbm, ⟨48, _⟩ => ⟨S88, .i32⟩
  | .hbm, ⟨49, _⟩ => ⟨S_, .i32⟩
  | .hbm, ⟨50, _⟩ => ⟨S88, .i32⟩
  | .hbm, ⟨51, _⟩ => ⟨S88, .i1⟩
  | .hbm, ⟨52, _⟩ => ⟨S_, .i32⟩
  | .hbm, ⟨53, _⟩ => ⟨S88, .i32⟩
  | .hbm, ⟨54, _⟩ => ⟨S88, .i32⟩
  | .hbm, ⟨55, _⟩ => ⟨S88, .i32⟩
  | .hbm, ⟨56, _⟩ => ⟨S88x1, .i32⟩
  | .hbm, ⟨57, _⟩ => ⟨S_, .i32⟩
  | .hbm, ⟨58, _⟩ => ⟨S88, .i32⟩
  | .hbm, ⟨59, _⟩ => ⟨S88, .i1⟩
  | .hbm, ⟨60, _⟩ => ⟨S_, .i32⟩
  | .hbm, ⟨61, _⟩ => ⟨S88, .i32⟩
  | .hbm, ⟨62, _⟩ => ⟨S88, .i32⟩
  | .hbm, ⟨63, _⟩ => ⟨S88, .i32⟩
  | .hbm, ⟨64, _⟩ => ⟨S88x1, .i32⟩
  | .hbm, ⟨65, _⟩ => ⟨S22528x2048, .f32⟩
  | .local _ .vmem, ⟨0, _⟩ => ⟨S256x1024, .f32⟩
  | .local _ .vmem, ⟨1, _⟩ => ⟨S256x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x512, .f32⟩
  | .local _ .vmem, ⟨11, _⟩ => ⟨S1x1x1024x512, .f32⟩
  | .local _ .vmem, ⟨12, _⟩ => ⟨S1x1x512x1024, .f32⟩
  | .local _ .vmem, ⟨13, _⟩ => ⟨S1x1x512x1024, .f32⟩
  | .local _ .vmem, ⟨14, _⟩ => ⟨S256x2048, .f32⟩
  | .local _ .vmem, ⟨15, _⟩ => ⟨S256x2048, .f32⟩
  | .local _ .smem, ⟨0, _⟩ => ⟨S88, .i32⟩
  | .local _ .smem, ⟨1, _⟩ => ⟨S88, .i32⟩
  | .local _ .smem, ⟨2, _⟩ => ⟨S1, .i32⟩
  | _, _ => ⟨S22528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v7 : Ref sig .tc := ⟨.hbm, 33, rfl⟩
abbrev main_call1_call0_c : Ref sig .tc := ⟨.hbm, 34, rfl⟩
abbrev main_call1_call0_v0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_c_7 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_8 : Ref sig .tc := ⟨.hbm, 57, rfl⟩
abbrev main_v26 : Ref sig .tc := ⟨.hbm, 58, rfl⟩
abbrev main_v27 : Ref sig .tc := ⟨.hbm, 59, rfl⟩
abbrev main_c_9 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v34 : Ref sig .tc := ⟨.hbm, 65, rfl⟩
abbrev main_v25 : Ref sig .tc := ⟨.smem, 0, rfl⟩
abbrev main_v32 : Ref sig .tc := ⟨.smem, 1, rfl⟩
abbrev main_v33 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_v25.idx, main_v32.idx, main_v33.idx], fun | 0 => main_v25.names | 1 => main_v32.names | 2 => main_v33.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_6 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S22528x1024 : Shape := ⟨2, ![22528, 1024]⟩
abbrev S24x128 : Shape := ⟨2, ![24, 128]⟩
abbrev S2x16x1024x512 : Shape := ⟨4, ![2, 16, 1024, 512]⟩
abbrev S2x16x512x1024 : Shape := ⟨4, ![2, 16, 512, 1024]⟩
abbrev S24 : Shape := ⟨1, ![24]⟩
abbrev S24x1 : Shape := ⟨2, ![24, 1]⟩
abbrev S_ : Shape := ⟨0, ![]⟩
abbrev S88x256 : Shape := ⟨2, ![88, 256]⟩
abbrev S22528 : Shape := ⟨1, ![22528]⟩
abbrev S22528x1 : Shape := ⟨2, ![22528, 1]⟩
abbrev S1x24 : Shape := ⟨2, ![1, 24]⟩
abbrev S22528x24 : Shape := ⟨2, ![22528, 24]⟩
abbrev S1x16 : Shape := ⟨2, ![1, 16]⟩
abbrev S22528x16 : Shape := ⟨2, ![22528, 16]⟩
abbrev S1x16x1024x512 : Shape := ⟨4, ![1, 16, 1024, 512]⟩
abbrev S16x1024x512 : Shape := ⟨3, ![16, 1024, 512]⟩
abbrev S22528x16x512 : Shape := ⟨3, ![22528, 16, 512]⟩
abbrev S22528x16x1 : Shape := ⟨3, ![22528, 16, 1]⟩
abbrev S1x16x512x1024 : Shape := ⟨4, ![1, 16, 512, 1024]⟩
abbrev S16x512x1024 : Shape := ⟨3, ![16, 512, 1024]⟩
abbrev S22528x2048 : Shape := ⟨2, ![22528, 2048]⟩
abbrev S1 : Shape := ⟨1, ![1]⟩

abbrev nBuf : Space → Nat
  | .hbm => 132
  | .vmem => 0
  | .smem => 0
  | _ => 0

abbrev hbmTy0_0 (i : Nat) : BufTy := match i % 128 with
  | 0 => ⟨S22528x1024, .f32⟩
  | 1 => ⟨S24x128, .f32⟩
  | 2 => ⟨S2x16x1024x512, .f32⟩
  | 3 => ⟨S2x16x1024x512, .f32⟩
  | 4 => ⟨S2x16x512x1024, .f32⟩
  | 5 => ⟨S24, .i32⟩
  | 6 => ⟨S24, .i32⟩
  | 7 => ⟨S24x1, .f32⟩
  | 8 => ⟨S24, .f32⟩
  | 9 => ⟨S24, .i32⟩
  | 10 => ⟨S_, .i32⟩
  | 11 => ⟨S24, .i32⟩
  | 12 => ⟨S24, .i32⟩
  | 13 => ⟨S_, .i32⟩
  | 14 => ⟨S_, .i32⟩
  | 15 => ⟨S24, .i32⟩
  | 16 => ⟨S24, .i32⟩
  | 17 => ⟨S24, .i32⟩
  | 18 => ⟨S_, .i32⟩
  | 19 => ⟨S24, .i32⟩
  | 20 => ⟨S24, .i1⟩
  | 21 => ⟨S24, .i32⟩
  | 22 => ⟨S24, .i32⟩
  | 23 => ⟨S_, .i32⟩
  | 24 => ⟨S24, .i32⟩
  | 25 => ⟨S24, .i1⟩
  | 26 => ⟨S24, .i1⟩
  | 27 => ⟨S_, .i32⟩
  | 28 => ⟨S24, .i32⟩
  | 29 => ⟨S24, .i32⟩
  | 30 => ⟨S24, .i32⟩
  | 31 => ⟨S_, .i32⟩
  | 32 => ⟨S_, .i32⟩
  | 33 => ⟨S24, .i32⟩
  | 34 => ⟨S88x256, .i32⟩
  | 35 => ⟨S22528, .i32⟩
  | 36 => ⟨S22528x1, .i32⟩
  | 37 => ⟨S1x24, .i32⟩
  | 38 => ⟨S22528x24, .i32⟩
  | 39 => ⟨S22528x24, .i32⟩
  | 40 => ⟨S22528x24, .i1⟩
  | 41 => ⟨S22528x24, .i32⟩
  | 42 => ⟨S_, .i32⟩
  | 43 => ⟨S22528, .i32⟩
  | 44 => ⟨S_, .i32⟩
  | 45 => ⟨S22528, .i32⟩
  | 46 => ⟨S22528, .i32⟩
  | 47 => ⟨S_, .i32⟩
  | 48 => ⟨S22528, .i32⟩
  | 49 => ⟨S22528, .i1⟩
  | 50 => ⟨S_, .i32⟩
  | 51 => ⟨S22528, .i32⟩
  | 52 => ⟨S22528, .i32⟩
  | 53 => ⟨S22528, .i32⟩
  | 54 => ⟨S22528x1, .i32⟩
  | 55 => ⟨S22528, .i32⟩
  | 56 => ⟨S_, .i32⟩
  | 57 => ⟨S22528, .i32⟩
  | 58 => ⟨S22528, .i1⟩
  | 59 => ⟨S_, .i32⟩
  | 60 => ⟨S22528, .i32⟩
  | 61 => ⟨S22528, .i32⟩
  | 62 => ⟨S22528, .i32⟩
  | 63 => ⟨S22528x1, .i32⟩
  | 64 => ⟨S22528, .i32⟩
  | 65 => ⟨S22528x1, .i32⟩
  | 66 => ⟨S1x16, .i32⟩
  | 67 => ⟨S22528x16, .i32⟩
  | 68 => ⟨S22528x16, .i32⟩
  | 69 => ⟨S22528x16, .i1⟩
  | 70 => ⟨S22528x16, .f32⟩
  | 71 => ⟨S1x16x1024x512, .f32⟩
  | 72 => ⟨S16x1024x512, .f32⟩
  | 73 => ⟨S22528x16x512, .f32⟩
  | 74 => ⟨S1x16x1024x512, .f32⟩
  | 75 => ⟨S16x1024x512, .f32⟩
  | 76 => ⟨S22528x16x512, .f32⟩
  | 77 => ⟨S22528x16x512, .f32⟩
  | 78 => ⟨S22528x16x512, .f32⟩
  | 79 => ⟨S_, .f32⟩
  | 80 => ⟨S22528x16x512, .f32⟩
  | 81 => ⟨S22528x16x512, .f32⟩
  | 82 => ⟨S_, .f32⟩
  | 83 => ⟨S22528x16x512, .f32⟩
  | 84 => ⟨S22528x16x512, .f32⟩
  | 85 => ⟨S22528x16x512, .f32⟩
  | 86 => ⟨S22528x16x512, .f32⟩
  | 87 => ⟨S22528x16x1, .f32⟩
  | 88 => ⟨S22528x16x512, .f32⟩
  | 89 => ⟨S22528x16x512, .f32⟩
  | 90 => ⟨S1x16x512x1024, .f32⟩
  | 91 => ⟨S16x512x1024, .f32⟩
  | 92 => ⟨S22528x1024, .f32⟩
  | 93 => ⟨S22528x1, .i32⟩
  | 94 => ⟨S1x16, .i32⟩
  | 95 => ⟨S22528x16, .i32⟩
  | 96 => ⟨S22528x16, .i32⟩
  | 97 => ⟨S22528x16, .i1⟩
  | 98 => ⟨S22528x16, .f32⟩
  | 99 => ⟨S1x16x1024x512, .f32⟩
  | 100 => ⟨S16x1024x512, .f32⟩
  | 101 => ⟨S22528x16x512, .f32⟩
  | 102 => ⟨S1x16x1024x512, .f32⟩
  | 103 => ⟨S16x1024x512, .f32⟩
  | 104 => ⟨S22528x16x512, .f32⟩
  | 105 => ⟨S22528x16x512, .f32⟩
  | 106 => ⟨S22528x16x512, .f32⟩
  | 107 => ⟨S_, .f32⟩
  | 108 => ⟨S22528x16x512, .f32⟩
  | 109 => ⟨S22528x16x512, .f32⟩
  | 110 => ⟨S_, .f32⟩
  | 111 => ⟨S22528x16x512, .f32⟩
  | 112 => ⟨S22528x16x512, .f32⟩
  | 113 => ⟨S22528x16x512, .f32⟩
  | 114 => ⟨S22528x16x512, .f32⟩
  | 115 => ⟨S22528x16x1, .f32⟩
  | 116 => ⟨S22528x16x512, .f32⟩
  | 117 => ⟨S22528x16x512, .f32⟩
  | 118 => ⟨S1x16x512x1024, .f32⟩
  | 119 => ⟨S16x512x1024, .f32⟩
  | 120 => ⟨S22528x1024, .f32⟩
  | 121 => ⟨S22528x2048, .f32⟩
  | 122 => ⟨S1, .i32⟩
  | 123 => ⟨S_, .i32⟩
  | 124 => ⟨S22528, .i32⟩
  | 125 => ⟨S22528, .i1⟩
  | 126 => ⟨S22528x1, .i1⟩
  | 127 => ⟨S_, .f32⟩
  | _ => ⟨S22528x1024, .f32⟩

abbrev hbmTy0_1 (i : Nat) : BufTy := match i % 128 with
  | 0 => ⟨S_, .f32⟩
  | 1 => ⟨S22528x2048, .i1⟩
  | 2 => ⟨S22528x2048, .f32⟩
  | 3 => ⟨S22528x2048, .f32⟩
  | _ => ⟨S22528x1024, .f32⟩

abbrev hbmTy (i : Nat) : BufTy := match i / 128 with
  | 0 => hbmTy0_0 i
  | 1 => hbmTy0_1 i
  | _ => ⟨S22528x1024, .f32⟩

abbrev bufTy : (tb : Table) → Fin (tcTables nBuf tb) → BufTy
  | .hbm, ⟨i, _⟩ => hbmTy i
  | _, _ => ⟨S22528x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_call1_call0_c : Ref sig .tc := ⟨.hbm, 31, rfl⟩
abbrev main_call1_call0_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_c_8 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_call5_v0 : Ref sig .tc := ⟨.hbm, 105, rfl⟩
abbrev main_call5_v1 : Ref sig .tc := ⟨.hbm, 106, rfl⟩
abbrev main_call5_cst : Ref sig .tc := ⟨.hbm, 107, rfl⟩
abbrev main_call5_v2 : Ref sig .tc := ⟨.hbm, 108, rfl⟩
abbrev main_call5_v3 : Ref sig .tc := ⟨.hbm, 109, rfl⟩
abbrev main_call5_cst_0 : Ref sig .tc := ⟨.hbm, 110, rfl⟩
abbrev main_call5_v4 : Ref sig .tc := ⟨.hbm, 111, rfl⟩
abbrev main_call5_v5 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_cst : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_v68 : Ref sig .tc := ⟨.hbm, 131, rfl⟩

abbrev nD : Nat := 1
abbrev τ : Topo := Topo.v7x

variable {F : FTy → Type} [FloatOps F]
-- ==== Kernel3.lean ====
abbrev S2x8448x1024 : Shape := ⟨3, ![2, 8448, 1024]⟩
abbrev S4x6x1024 : Shape := ⟨3, ![4, 6, 1024]⟩
abbrev S1024 : Shape := ⟨1, ![1024]⟩
abbrev S1024x2048 : Shape := ⟨2, ![1024, 2048]⟩
abbrev S_ : Shape := ⟨0, ![]⟩
abbrev S4x8x1024 : Shape := ⟨3, ![4, 8, 1024]⟩
abbrev S1x1024 : Shape := ⟨2, ![1, 1024]⟩
abbrev S1x256x1024 : Shape := ⟨3, ![1, 256, 1024]⟩
abbrev S1x8x1024 : Shape := ⟨3, ![1, 8, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 11
  | .vmem => 10
  | .smem => 0
  | _ => 0

abbrev bufTy : (tb : Table) → Fin (tcTables nBuf tb) → BufTy
  | .hbm, ⟨0, _⟩ => ⟨S2x8448x1024, .f32⟩
  | .hbm, ⟨1, _⟩ => ⟨S4x6x1024, .f32⟩
  | .hbm, ⟨2, _⟩ => ⟨S1024, .f32⟩
  | .hbm, ⟨3, _⟩ => ⟨S1024x2048, .f32⟩
  | .hbm, ⟨4, _⟩ => ⟨S_, .i32⟩
  | .hbm, ⟨5, _⟩ => ⟨S_, .f32⟩
  | .hbm, ⟨6, _⟩ => ⟨S4x8x1024, .f32⟩
  | .hbm, ⟨7, _⟩ => ⟨S1x1024, .f32⟩
  | .hbm, ⟨8, _⟩ => ⟨S1024x2048, .bf16⟩
  | .hbm, ⟨9, _⟩ => ⟨S2x8448x1024, .bf16⟩
  | .hbm, ⟨10, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2048, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c32_i32 : BitVec 32 := 32#32
  let v1 : BitVec 32 := Scalar.divsi arg1 c32_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg1 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2x8448x1024 : Shape := ⟨3, ![2, 8448, 1024]⟩
abbrev S4x6x1024 : Shape := ⟨3, ![4, 6, 1024]⟩
abbrev S1024 : Shape := ⟨1, ![1024]⟩
abbrev S1024x2048 : Shape := ⟨2, ![1024, 2048]⟩
abbrev S1x8448x1 : Shape := ⟨3, ![1, 8448, 1]⟩
abbrev S_ : Shape := ⟨0, ![]⟩
abbrev S2x1x1024 : Shape := ⟨3, ![2, 1, 1024]⟩
abbrev S2x8448 : Shape := ⟨2, ![2, 8448]⟩
abbrev S2x8448x1 : Shape := ⟨3, ![2, 8448, 1]⟩
abbrev S1x1x1024 : Shape := ⟨3, ![1, 1, 1024]⟩
abbrev S2x8448x2048 : Shape := ⟨3, ![2, 8448, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S4x6x1024, .f32⟩
  | .hbm, ⟨2, _⟩ => ⟨S1024, .f32⟩
  | .hbm, ⟨3, _⟩ => ⟨S1024x2048, .f32⟩
  | .hbm, ⟨4, _⟩ => ⟨S1x8448x1, .i32⟩
  | .hbm, ⟨5, _⟩ => ⟨S_, .i32⟩
  | .hbm, ⟨6, _⟩ => ⟨S1x8448x1, .i32⟩
  | .hbm, ⟨7, _⟩ => ⟨S1x8448x1, .i1⟩
  | .hbm, ⟨8, _⟩ => ⟨S2x1x1024, .f32⟩
  | .hbm, ⟨9, _⟩ => ⟨S2x1x1024, .f32⟩
  | .hbm, ⟨10, _⟩ => ⟨S2x8448x1024, .i1⟩
  | .hbm, ⟨11, _⟩ => ⟨S2x8448x1024, .f32⟩
  | .hbm, ⟨12, _⟩ => ⟨S2x8448x1024, .f32⟩
  | .hbm, ⟨13, _⟩ => ⟨S2x8448x1024, .f32⟩
  | .hbm, ⟨14, _⟩ => ⟨S2x1x1024, .f32⟩
  | .hbm, ⟨15, _⟩ => ⟨S2x1x1024, .f32⟩
  | .hbm, ⟨16, _⟩ => ⟨S2x8448x1024, .i1⟩
  | .hbm, ⟨17, _⟩ => ⟨S2x8448x1024, .f32⟩
  | .hbm, ⟨18, _⟩ => ⟨S2x8448x1024, .f32⟩
  | .hbm, ⟨19, _⟩ => ⟨S2x8448x1024, .f32⟩
  | .hbm, ⟨20, _⟩ => ⟨S2x8448x1024, .f32⟩
  | .hbm, ⟨21, _⟩ => ⟨S_, .f32⟩
  | .hbm, ⟨22, _⟩ => ⟨S2x8448, .f32⟩
  | .hbm, ⟨23, _⟩ => ⟨S2x8448x1, .f32⟩
  | .hbm, ⟨24, _⟩ => ⟨S_, .f32⟩
  | .hbm, ⟨25, _⟩ => ⟨S2x8448x1, .f32⟩
  | .hbm, ⟨26, _⟩ => ⟨S2x8448x1, .f32⟩
  | .hbm, ⟨27, _⟩ => ⟨S_, .f32⟩
  | .hbm, ⟨28, _⟩ => ⟨S2x8448x1, .f32⟩
  | .hbm, ⟨29, _⟩ => ⟨S2x8448x1, .f32⟩
  | .hbm, ⟨30, _⟩ => ⟨S2x8448x1, .f32⟩
  | .hbm, ⟨31, _⟩ => ⟨S2x8448x1024, .f32⟩
  | .hbm, ⟨32, _⟩ => ⟨S2x8448x1024, .f32⟩
  | .hbm, ⟨33, _⟩ => ⟨S1x1x1024, .f32⟩
  | .hbm, ⟨34, _⟩ => ⟨S2x8448x1024, .f32⟩
  | .hbm, ⟨35, _⟩ => ⟨S2x8448x1024, .f32⟩
  | .hbm, ⟨36, _⟩ => ⟨S_, .f32⟩
  | .hbm, ⟨37, _⟩ => ⟨S2x8448x1024, .f32⟩
  | .hbm, ⟨38, _⟩ => ⟨S2x8448x1024, .f32⟩
  | .hbm, ⟨39, _⟩ => ⟨S2x8448x1024, .f32⟩
  | .hbm, ⟨40, _⟩ => ⟨S2x8448x1024, .f32⟩
  | .hbm, ⟨41, _⟩ => ⟨S2x8448x2048, .f32⟩
  | .hbm, ⟨42, _⟩ => ⟨S2x8448x1024, .f32⟩
  | .hbm, ⟨43, _⟩ => ⟨S2x8448x1024, .f32⟩
  | .hbm, ⟨44, _⟩ => ⟨S2x8448x1024, .f32⟩
  | .hbm, ⟨45, _⟩ => ⟨S_, .f32⟩
  | .hbm, ⟨46, _⟩ => ⟨S2x8448x1024, .f32⟩
  | .hbm, ⟨47, _⟩ => ⟨S2x8448x1024, .f32⟩
  | .hbm, ⟨48, _⟩ => ⟨S2x8448x1024, .f32⟩
  | .hbm, ⟨49, _⟩ => ⟨S_, .f32⟩
  | .hbm, ⟨50, _⟩ => ⟨S2x8448x1024, .f32⟩
  | .hbm, ⟨51, _⟩ => ⟨S2x8448x1024, .f32⟩
  | .hbm, ⟨52, _⟩ => ⟨S2x8448x1024, .f32⟩
  | .hbm, ⟨53, _⟩ => ⟨S_, .f32⟩
  | .hbm, ⟨54, _⟩ => ⟨S2x8448x1024, .f32⟩
  | .hbm, ⟨55, _⟩ => ⟨S2x8448x1024, .f32⟩
  | .hbm, ⟨56, _⟩ => ⟨S_, .f32⟩
  | .hbm, ⟨57, _⟩ => ⟨S2x8448x1024, .f32⟩
  | .hbm, ⟨58, _⟩ => ⟨S2x8448x1024, .f32⟩
  | .hbm, ⟨59, _⟩ => ⟨S2x8448x1024, .f32⟩
  | .hbm, ⟨60, _⟩ => ⟨S2x8448x1024, .bf16⟩
  | .hbm, ⟨61, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.Moe.Entry.lean ====
/-
  The experts' call: what the host leaves in memory before it, and the look-up tables it reads.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- What core `c` holds in buffer `b` once the host's look-ups are done and the experts' call starts. -/
abbrev V (c : Dev nD) (b : Ref sig .tc) : Buf (Elt F) ((c : Thread nD τ).loc b) :=
  StableHlo.after (List.flatten [hostOps0, hostOps0_1, hostOps0_2, hostOps0_3]) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor

/-- The whole program is the host's look-ups and then the call. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨fresh_0, fresh_1, fresh_2, fresh_3⟩) main_chain

/-- No look-up writes an argument. -/
theorem V_arg (c : Dev nD) (b : Ref sig .tc)
    (hb : b = main_arg0 ∨ b = main_arg1 ∨ b = main_arg2 ∨ b = main_arg3 ∨ b = main_arg4) :
    V m c b = m ((c : Thread nD τ).loc b) := by
  refine StableHlo.after_of_forall_not_mem (b := Proc.devRef .tc b) _ _ (List.forall_iff_forall_mem.mp ?_)
  rcases hb with rfl | rfl | rfl | rfl | rfl <;>
  · simp only [hostOps0, hostOps0_1, hostOps0_2, hostOps0_3, List.flatten_cons, List.flatten_nil, List.append_nil,
      List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)

/-- The three look-up tables as the call finds them: first expert, second expert, number of tiles in use. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every block the tables name lies inside its array. -/
abbrev Ok : Prop := ok0 (F := F) (tbl m)

end Cert.Kernel2Ideal.Moe

end
-- ==== Proof.Moe.Body.lean ====
/-
  One grid point of the experts' call.
-/
module

public import proofs.«01_k».proof.Proof.Moe.Entry
public import Idealize.ShloMosaic.Lib.WordCmp
public import Idealize.ShloMosaic.Lib.WritesUnit
public import Idealize.ShloMosaic.Lib.Pipeline.ValueKit.Basic
public import Idealize.ShloMosaic.Lib.VecWindow
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The tables as the body is handed them: whole buffers, of which the pipeline lends half the share. -/
abbrev T0 : Memref sig .tc .smem S88 .i32 := Memref.whole main_v25
abbrev T1 : Memref sig .tc .smem S88 .i32 := Memref.whole main_v32
abbrev T2 : Memref sig .tc .smem S1 .i32 := Memref.whole main_v33
abbrev TBuf (c : Dev nD) {S : Shape} {e : EltTy} (M : Memref sig .tc .smem S e) : Type :=
  Buf (Elt F) (M.view.loc (c : Thread nD τ))
abbrev tPt (c : Dev nD) {S : Shape} {e : EltTy} (M : Memref sig .tc .smem S e) (f : TBuf (F := F) c M) : sProp 𝕄 :=
  M.view.loc (c : Thread nD τ) ↦{fullShare.right} f

theorem PhiT_eq (c : Dev nD) (pf : pre0.Contents (Elt F)) : (Pipeline.ΦT pre0 pf c : sProp 𝕄)
    = iprop(tPt c T0 (pf 0) ∗ tPt c T1 (pf 1) ∗ tPt c T2 (pf 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- A tile is either in use or not, never both: the kernel's two tests are each other's opposites. -/
theorem tests (i : grid0.Coords) (v : BitVec 32) :
    (k0_cond1 i v = 1#1 ∧ ¬ k0_cond2 i v = 1#1) ∨ (¬ k0_cond1 i v = 1#1 ∧ k0_cond2 i v = 1#1) := by
  unfold k0_cond1 k0_cond2
  generalize BitVec.ofNat 32 (i 0).val = a
  show (IntOp.cmpi .ne (BitVec.setWidth 32 (IntOp.cmpi .slt a v)) 0#32 = 1#1 ∧ ¬ IntOp.cmpi .ne (BitVec.setWidth 32 (IntOp.cmpi .sge a v)) 0#32 = 1#1)
    ∨ (¬ IntOp.cmpi .ne (BitVec.setWidth 32 (IntOp.cmpi .slt a v)) 0#32 = 1#1 ∧ IntOp.cmpi .ne (BitVec.setWidth 32 (IntOp.cmpi .sge a v)) 0#32 = 1#1)
  rw [WordCmp.cmpi_slt_eq, WordCmp.cmpi_sge_eq]
  by_cases h : a.toInt < v.toInt
  · left
    rw [decide_eq_true h, decide_eq_false (by omega)]
    decide
  · right
    rw [decide_eq_false h, decide_eq_true (by omega)]
    decide

/-- What one grid point leaves in its block of the result: of a tile in use, the first expert's rows in the left half
    and the second's in the right half; of any other, zeros. -/
def tileOut (i : grid0.Coords) (v : BitVec 32) (x0 : Vec F S256x1024 .f32) (x1 : Vec F S1x1x1024x512 .f32)
    (x2 : Vec F S1x1x1024x512 .f32) (x3 : Vec F S1x1x512x1024 .f32) (x4 : Vec F S1x1x1024x512 .f32)
    (x5 : Vec F S1x1x1024x512 .f32) (x6 : Vec F S1x1x512x1024 .f32) : Vec F S256x2048 .f32 := fun y =>
  if k0_cond1 i v = 1#1 then
    if h : (y 1).val < 1024 then k0_pay4 x0 x1 x2 x3 (ix2 (y 0) ⟨(y 1).val, h⟩)
    else k0_pay1 (k0_pay3 x0) (k0_pay5 x0 x4) x5 x6 (ix2 (y 0) ⟨(y 1).val - 1024, by have := (y 1).isLt; simp at this; omega⟩)
  else k0_pay2 y

/-- A load of the whole block reads the block. -/
theorem ldA (x : Vec F S256x1024 .f32) : View.ld x (Rect.unit (s := S256x1024) ![0, 0] ![256, 1024] inb_S256x1024_S256x1024_0_0) = x :=
  View.ld_unit_lit (S := S256x1024) inb_S256x1024_S256x1024_0_0 x (by decide)
theorem ldB (x : Vec F S1x1x1024x512 .f32) : View.ld x (Rect.unit (s := S1x1x1024x512) ![0, 0, 0, 0] ![1, 1, 1024, 512] inb_S1x1x1024x512_S1x1x1024x512_0_0_0_0) = x :=
  View.ld_unit_lit (S := S1x1x1024x512) inb_S1x1x1024x512_S1x1x1024x512_0_0_0_0 x (by decide)
theorem ldC (x : Vec F S1x1x512x1024 .f32) : View.ld x (Rect.unit (s := S1x1x512x1024) ![0, 0, 0, 0] ![1, 1, 512, 1024] inb_S1x1x512x1024_S1x1x512x1024_0_0_0_0) = x :=
  View.ld_unit_lit (S := S1x1x512x1024) inb_S1x1x512x1024_S1x1x512x1024_0_0_0_0 x (by decide)

set_option maxHeartbeats 1000000 in
/-- The body on whole staging buffers: the inputs and the tables are handed back as they were, the output's buffer
    holds `tileOut`. -/
theorem run (c : Dev nD) (i : grid0.Coords) (arg4 : Memref sig .tc .vmem S256x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1x1x1024x512 .f32) (harg8 : arg8.IsWhole) (arg9 : Memref sig .tc .vmem S1x1x1024x512 .f32) (harg9 : arg9.IsWhole) (arg10 : Memref sig .tc .vmem S1x1x512x1024 .f32) (harg10 : arg10.IsWhole) (arg11 : Memref sig .tc .vmem S256x2048 .f32) (harg11 : arg11.IsWhole)
    (x0 : Vec F S256x1024 .f32) (x1 : Vec F S1x1x1024x512 .f32) (x2 : Vec F S1x1x1024x512 .f32) (x3 : Vec F S1x1x512x1024 .f32) (x4 : Vec F S1x1x1024x512 .f32) (x5 : Vec F S1x1x1024x512 .f32) (x6 : Vec F S1x1x512x1024 .f32) (xt0 : TBuf (F := F) c T0) (xt1 : TBuf (F := F) c T1) (xt2 : TBuf (F := F) c T2)
    (v : BitVec 32) (hv : v = xt2 (ix1 0))
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tPt c T0 xt0 ∗ tPt c T1 xt1 ∗ tPt c T2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (owns (c : Thread nD τ) arg11 fullShare (tileOut i v x0 x1 x2 x3 x4 x5 x6)) ∗ tPt c T0 xt0 ∗ tPt c T1 xt1 ∗ tPt c T2 xt2) -∗ K ⟨⟩))
          ⊢ wp frame (wpE (defs₀ (F := F)) Variants.none c none) E (cc0_moe_routed i T0 (Memref.isWhole_whole _) T1 (Memref.isWhole_whole _) T2 (Memref.isWhole_whole _) arg4 harg4 arg5 harg5 arg6 harg6 arg7 harg7 arg8 harg8 arg9 harg9 arg10 harg10 arg11 harg11) K := by
    simp only [cc0_moe_routed_eq_skeleton]; unfold cc0_moe_routed_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; swap; · iexact H7
      ipureintro
      have hw : run.sl.r c xt2 = v := by
        rw [hv]; unfold run.sl.r
        refine (congrArg xt2 (?_ : _ = ix1 0))
        funext a; fin_cases a; exact Subsingleton.elim (α := Fin 1) _ _
      rw [hw]
      unfold run.sl.r_1 run.sl.r_2 run.sl.v36 run.sl.v50
      simp only [View.readAt_eq_ld, Memref.IsWhole.read_unread]
      simp only [ldA, ldB, ldC]
      rcases tests i v with ⟨h1, h2⟩ | ⟨h1, h2⟩
      · rw [dif_neg h2, dif_pos h1]
        funext y
        unfold tileOut
        rw [if_pos h1]
        by_cases hy : (y 1).val < 1024
        · rw [dif_pos hy, View.read_writes_cons_unit_of_not_mem arg11.view f7 inb_S256x2048_S256x1024_0_1024 _ _ y rfl 1 (Or.inl hy)]
          exact View.read_writes_cons_unit_of_mem arg11.view f7 inb_S256x2048_S256x1024_0_0 _ _ y (ix2 (y 0) ⟨(y 1).val, hy⟩) rfl
            (fun a => by fin_cases a <;> simp)
        · rw [dif_neg hy]
          exact View.read_writes_cons_unit_of_mem arg11.view f7 inb_S256x2048_S256x1024_0_1024 _ _ y (ix2 (y 0) ⟨(y 1).val - 1024, _⟩) rfl
            (fun a => by fin_cases a <;> simp; omega)
      · rw [dif_pos h2, dif_neg h1]
        funext y
        unfold tileOut
        rw [if_neg h1]
        exact congrFun (View.read_writes_full arg11.view f7 inb_S256x2048_S256x2048_0_0 _ _) y
    isplitl [HT0]; · iexact HT0
    isplitl [HT1]; · iexact HT1
    iexact HT2

end Cert.Kernel2Ideal.Moe

end
-- ==== Proof.Moe.Frame.lean ====
/-
  The run of the experts' call over the whole grid, for any tables whose entries name blocks inside the arrays.
-/
module

public import proofs.«01_k».proof.Proof.Moe.Body
public import Idealize.ShloMosaic.Lib.Claim

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

variable (pf : pre0.Contents (Elt F)) (hO : ok0 (F := F) pf)

/-- The tables as contents the call may run at, and the call's pipeline at them. -/
abbrev adm : (pcfg0 (F := F)).Adm := ⟨pf, hO⟩
abbrev cfgM : Pipeline.Cfg sig Λ₀ := cfg0 (adm pf hO)

/-- The number of tiles in use, as the body loads it. -/
abbrev used : BitVec 32 := (pf 2 : (⟨S1, .i32⟩ : BufTy).Contents (Elt F)) (ix1 0)

/-- Window `w`'s block at point `t`, read off its array. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V m c (Pipeline.arrRef spec0 w))

/-- What point `t` leaves in its block of the result. -/
def outB (c : Dev nD) (t : Fin (cfgM pf hO).N) : Vec F S256x2048 .f32 :=
  tileOut (grid0.coords t) (used pf) (iblk m pf hO c 0 t) (iblk m pf hO c 1 t) (iblk m pf hO c 2 t) (iblk m pf hO c 3 t)
    (iblk m pf hO c 4 t) (iblk m pf hO c 5 t) (iblk m pf hO c 6 t)

/-- The proof data: the arrays as the call finds them, every input block left in place, the output block at `outB`. -/
def dats (_ : Fin 1) (c : Dev nD) : Dat τ (Elt F) Unit ℕ (UR sig nD τ) ℕ (cfgM pf hO) c where
  A w := V m c (Pipeline.arrRef spec0 w)
  after w t := match w with
    | ⟨0, _⟩ => iblk m pf hO c 0 t
    | ⟨1, _⟩ => iblk m pf hO c 1 t
    | ⟨2, _⟩ => iblk m pf hO c 2 t
    | ⟨3, _⟩ => iblk m pf hO c 3 t
    | ⟨4, _⟩ => iblk m pf hO c 4 t
    | ⟨5, _⟩ => iblk m pf hO c 5 t
    | ⟨6, _⟩ => iblk m pf hO c 6 t
    | ⟨7, _⟩ => outB m pf hO c t
  Φ _ := iprop(Pipeline.ΦA spec0 c ∗ Pipeline.ΦT pre0 pf c)
  q w := Pipeline.shareOf spec0 w
  owed _ := 0

theorem A_eq (c : Dev nD) (w : Fin (cfgM pf hO).W) : (dats m pf hO 0 c).A w = V m c (Pipeline.arrRef spec0 w) := by
  dsimp only [dats]

theorem after_0 (c : Dev nD) (t : Fin (cfgM pf hO).N) : (dats m pf hO 0 c).after 0 t = iblk m pf hO c 0 t := by dsimp only [dats]; try rfl
theorem after_1 (c : Dev nD) (t : Fin (cfgM pf hO).N) : (dats m pf hO 0 c).after 1 t = iblk m pf hO c 1 t := by dsimp only [dats]; try rfl
theorem after_2 (c : Dev nD) (t : Fin (cfgM pf hO).N) : (dats m pf hO 0 c).after 2 t = iblk m pf hO c 2 t := by dsimp only [dats]; try rfl
theorem after_3 (c : Dev nD) (t : Fin (cfgM pf hO).N) : (dats m pf hO 0 c).after 3 t = iblk m pf hO c 3 t := by dsimp only [dats]; try rfl
theorem after_4 (c : Dev nD) (t : Fin (cfgM pf hO).N) : (dats m pf hO 0 c).after 4 t = iblk m pf hO c 4 t := by dsimp only [dats]; try rfl
theorem after_5 (c : Dev nD) (t : Fin (cfgM pf hO).N) : (dats m pf hO 0 c).after 5 t = iblk m pf hO c 5 t := by dsimp only [dats]; try rfl
theorem after_6 (c : Dev nD) (t : Fin (cfgM pf hO).N) : (dats m pf hO 0 c).after 6 t = iblk m pf hO c 6 t := by dsimp only [dats]; try rfl
theorem after_7 (c : Dev nD) (t : Fin (cfgM pf hO).N) : (dats m pf hO 0 c).after 7 t = outB m pf hO c t := by dsimp only [dats]; try rfl

theorem before_0 (c : Dev nD) (t : Fin (cfgM pf hO).N) (d) : (dats m pf hO 0 c).before 0 t d = iblk m pf hO c 0 t :=
  ((dats m pf hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM pf hO).N) (d) : (dats m pf hO 0 c).before 1 t d = iblk m pf hO c 1 t :=
  ((dats m pf hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM pf hO).N) (d) : (dats m pf hO 0 c).before 2 t d = iblk m pf hO c 2 t :=
  ((dats m pf hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM pf hO).N) (d) : (dats m pf hO 0 c).before 3 t d = iblk m pf hO c 3 t :=
  ((dats m pf hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM pf hO).N) (d) : (dats m pf hO 0 c).before 4 t d = iblk m pf hO c 4 t :=
  ((dats m pf hO 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin (cfgM pf hO).N) (d) : (dats m pf hO 0 c).before 5 t d = iblk m pf hO c 5 t :=
  ((dats m pf hO 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin (cfgM pf hO).N) (d) : (dats m pf hO 0 c).before 6 t d = iblk m pf hO c 6 t :=
  ((dats m pf hO 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- The staging buffers in use at a point. -/
abbrev st0 (t : Fin (cfgM pf hO).N) : Memref sig .tc .vmem S256x1024 .f32 := spec0_0.stage ((cfgM pf hO).slots t 0)
abbrev st1 (t : Fin (cfgM pf hO).N) : Memref sig .tc .vmem S1x1x1024x512 .f32 := spec0_1.stage ((cfgM pf hO).slots t 1)
abbrev st2 (t : Fin (cfgM pf hO).N) : Memref sig .tc .vmem S1x1x1024x512 .f32 := spec0_2.stage ((cfgM pf hO).slots t 2)
abbrev st3 (t : Fin (cfgM pf hO).N) : Memref sig .tc .vmem S1x1x512x1024 .f32 := spec0_3.stage ((cfgM pf hO).slots t 3)
abbrev st4 (t : Fin (cfgM pf hO).N) : Memref sig .tc .vmem S1x1x1024x512 .f32 := spec0_4.stage ((cfgM pf hO).slots t 4)
abbrev st5 (t : Fin (cfgM pf hO).N) : Memref sig .tc .vmem S1x1x1024x512 .f32 := spec0_5.stage ((cfgM pf hO).slots t 5)
abbrev st6 (t : Fin (cfgM pf hO).N) : Memref sig .tc .vmem S1x1x512x1024 .f32 := spec0_6.stage ((cfgM pf hO).slots t 6)
abbrev st7 (t : Fin (cfgM pf hO).N) : Memref sig .tc .vmem S256x2048 .f32 := spec0_7.stage ((cfgM pf hO).slots t 7)

/-- The body at a point, on what the pipeline calls it with. -/
abbrev bodyAt (t : Fin (cfgM pf hO).N) : Prog (TpuEff nD τ sig (Elt F) Λ₀ .tc) PUnit :=
  cc0_moe_routed (grid0.coords t) (Memref.whole main_v25) (Memref.isWhole_whole _) (Memref.whole main_v32) (Memref.isWhole_whole _)
    (Memref.whole main_v33) (Memref.isWhole_whole _)
    (st0 pf hO t) (hstage0_0 (((cfgM pf hO).slots t 0).cast nbuf0_0))
    (st1 pf hO t) (hstage0_1 (((cfgM pf hO).slots t 1).cast nbuf0_1))
    (st2 pf hO t) (hstage0_2 (((cfgM pf hO).slots t 2).cast nbuf0_2))
    (st3 pf hO t) (hstage0_3 (((cfgM pf hO).slots t 3).cast nbuf0_3))
    (st4 pf hO t) (hstage0_4 (((cfgM pf hO).slots t 4).cast nbuf0_4))
    (st5 pf hO t) (hstage0_5 (((cfgM pf hO).slots t 5).cast nbuf0_5))
    (st6 pf hO t) (hstage0_6 (((cfgM pf hO).slots t 6).cast nbuf0_6))
    (st7 pf hO t) (hstage0_7 (((cfgM pf hO).slots t 7).cast nbuf0_7))

def bodyPre (c : Dev nD) (t : Fin (cfgM pf hO).N) : sProp 𝕄 :=
  iprop((dats m pf hO 0 c).Φ t.castSucc ∗ (dats m pf hO 0 c).owesAt () t.castSucc
    ∗ (∃ d, owns (c : Thread nD τ) (st0 pf hO t) fullShare ((dats m pf hO 0 c).before 0 t d))
    ∗ (∃ d, owns (c : Thread nD τ) (st1 pf hO t) fullShare ((dats m pf hO 0 c).before 1 t d))
    ∗ (∃ d, owns (c : Thread nD τ) (st2 pf hO t) fullShare ((dats m pf hO 0 c).before 2 t d))
    ∗ (∃ d, owns (c : Thread nD τ) (st3 pf hO t) fullShare ((dats m pf hO 0 c).before 3 t d))
    ∗ (∃ d, owns (c : Thread nD τ) (st4 pf hO t) fullShare ((dats m pf hO 0 c).before 4 t d))
    ∗ (∃ d, owns (c : Thread nD τ) (st5 pf hO t) fullShare ((dats m pf hO 0 c).before 5 t d))
    ∗ (∃ d, owns (c : Thread nD τ) (st6 pf hO t) fullShare ((dats m pf hO 0 c).before 6 t d))
    ∗ (∃ d, owns (c : Thread nD τ) (st7 pf hO t) fullShare ((dats m pf hO 0 c).before 7 t d)))

def bodyPost (c : Dev nD) (t : Fin (cfgM pf hO).N) : sProp 𝕄 :=
  iprop((dats m pf hO 0 c).Φ t.succ ∗ (dats m pf hO 0 c).owesAt () t.succ
    ∗ owns (c : Thread nD τ) (st0 pf hO t) fullShare ((dats m pf hO 0 c).after 0 t)
    ∗ owns (c : Thread nD τ) (st1 pf hO t) fullShare ((dats m pf hO 0 c).after 1 t)
    ∗ owns (c : Thread nD τ) (st2 pf hO t) fullShare ((dats m pf hO 0 c).after 2 t)
    ∗ owns (c : Thread nD τ) (st3 pf hO t) fullShare ((dats m pf hO 0 c).after 3 t)
    ∗ owns (c : Thread nD τ) (st4 pf hO t) fullShare ((dats m pf hO 0 c).after 4 t)
    ∗ owns (c : Thread nD τ) (st5 pf hO t) fullShare ((dats m pf hO 0 c).after 5 t)
    ∗ owns (c : Thread nD τ) (st6 pf hO t) fullShare ((dats m pf hO 0 c).after 6 t)
    ∗ owns (c : Thread nD τ) (st7 pf hO t) fullShare ((dats m pf hO 0 c).after 7 t))

set_option maxHeartbeats 800000 in
theorem sound_body (c : Dev nD) (t : Fin (cfgM pf hO).N) :
    bodyPre m pf hO c t ⊢ wp frame (wpE (defs₀ (F := F)) Variants.none c none) Set.univ (bodyAt pf hO t) (fun _ => bodyPost m pf hO c t) := by
  unfold bodyPre bodyPost bodyAt
  simp only [before_0, before_1, before_2, before_3, before_4, before_5, before_6]
  rw [show (dats m pf hO 0 c).Φ t.succ = (dats m pf hO 0 c).Φ t.castSucc from rfl,
    show (dats m pf hO 0 c).owesAt () t.succ = (dats m pf hO 0 c).owesAt () t.castSucc from rfl,
    after_0, after_1, after_2, after_3, after_4, after_5, after_6, after_7]
  rw [show (dats m pf hO 0 c).Φ t.castSucc = iprop(Pipeline.ΦA spec0 c ∗ Pipeline.ΦT pre0 pf c) from rfl, PhiT_eq]
  unfold outB
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ (iblk m pf hO c 0 t) (iblk m pf hO c 1 t) (iblk m pf hO c 2 t) (iblk m pf hO c 3 t) (iblk m pf hO c 4 t) (iblk m pf hO c 5 t) (iblk m pf hO c 6 t) (pf 0) (pf 1) (pf 2) (used pf) rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  isplitl [HT2]; · iexact HT2
  iintro ⟨H0, H1, H2, H3, H4, H5, H6, H7, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin (cfgM pf hO).N) :
    defs₀ (F := F) .tc (cfgM pf hO).body ((cfgM pf hO).bodyArgs t ((cfgM pf hO).slots t)) = bodyAt pf hO t := by
  unfold defs₀; rw [Defs.onTc_tc]

/-- The result's block is stored at every point: one of the two tests always holds. -/
theorem idle_7 (i : grid0.Coords) : idle0 (F := F) pf 7 i = false := by
  show (!(k0_cond1 i (pf.atD 2 ![0]) == 1#1) && !(k0_cond2 i (pf.atD 2 ![0]) == 1#1)) = false
  rcases tests i (pf.atD 2 ![0]) with ⟨h, _⟩ | ⟨_, h⟩ <;> simp [h]

theorem live_7 (t : Fin (cfgM pf hO).N) : (cfgM pf hO).idle 7 ((cfgM pf hO).grid.coords t) = false := idle_7 pf _

/-- What the pipeline asks the body to leave: the result's buffer only where it is stored to. -/
def askedPost (c : Dev nD) (t : Fin (cfgM pf hO).N) : sProp 𝕄 :=
  iprop((dats m pf hO 0 c).Φ t.succ ∗ (dats m pf hO 0 c).owesAt () t.succ
    ∗ owns (c : Thread nD τ) (st0 pf hO t) fullShare ((dats m pf hO 0 c).after 0 t)
    ∗ owns (c : Thread nD τ) (st1 pf hO t) fullShare ((dats m pf hO 0 c).after 1 t)
    ∗ owns (c : Thread nD τ) (st2 pf hO t) fullShare ((dats m pf hO 0 c).after 2 t)
    ∗ owns (c : Thread nD τ) (st3 pf hO t) fullShare ((dats m pf hO 0 c).after 3 t)
    ∗ owns (c : Thread nD τ) (st4 pf hO t) fullShare ((dats m pf hO 0 c).after 4 t)
    ∗ owns (c : Thread nD τ) (st5 pf hO t) fullShare ((dats m pf hO 0 c).after 5 t)
    ∗ owns (c : Thread nD τ) (st6 pf hO t) fullShare ((dats m pf hO 0 c).after 6 t)
    ∗ (match (cfgM pf hO).idle 7 ((cfgM pf hO).grid.coords t) with
      | true => (match ((cfgM pf hO).win 7).flush t with
        | false => iprop(∃ d, owns (c : Thread nD τ) (st7 pf hO t) fullShare ((dats m pf hO 0 c).before 7 t d))
        | true => owns (c : Thread nD τ) (st7 pf hO t) fullShare ((dats m pf hO 0 c).after 7 t))
      | false => owns (c : Thread nD τ) (st7 pf hO t) fullShare ((dats m pf hO 0 c).after 7 t)))

/-- It is stored to everywhere, so this is what the body leaves. -/
theorem askedPost_eq (c : Dev nD) (t : Fin (cfgM pf hO).N) : askedPost m pf hO c t = bodyPost m pf hO c t := by
  unfold askedPost bodyPost
  rw [live_7]

theorem sound_asked (c : Dev nD) (t : Fin (cfgM pf hO).N) :
    bodyPre m pf hO c t ⊢ wp frame (wpE (defs₀ (F := F)) Variants.none c none) Set.univ (bodyAt pf hO t) (fun _ => askedPost m pf hO c t) := by
  rw [askedPost_eq]; exact sound_body m pf hO c t

theorem obligation (c : Dev nD) : BodyObligation (dats (F := F) m pf hO 0 c) (defs₀ (F := F)) Variants.none () Set.univ := fun t => by
  rw [bigSep_W0, bigSep_W0, row pf hO]
  exact triple_restated (sound_asked m pf hO c t) rfl .rfl fun _ => .rfl

set_option backward.isDefEq.respectTransparency.types false in
set_option maxHeartbeats 1000000 in
/-- The whole program's run: the arrays after it are what the blocks were written back as, the rest is as the call found it. -/
theorem run_quiescent (hpf : ∀ c j, V m c (pre0.ref j) = pf j) (ρ : Dev nD → PrngReg) : θ_run defs (onTc (τ := τ) (main (F := F))) (s₀ m ρ)
    (fun r => Pipeline.FramePost (Pipeline.pin pcfgs fun _ => adm pf hO) (dats m pf hO) 0 (V m) r ∧ r.2.sem = fun _ => 0) :=
  Pipeline.θ_run_frameP_shared (Q' := _) pcfgs (fun _ => adm pf hO) (dats m pf hO) (0 : Fin 1) launch₀0 defs₀ Variants.none m ρ main
    (hbody := fun c => (obligation m pf hO c).loose) (hq := fun _ _ _ => rfl)
    (howed := fun _ _ => rfl) (V := V m) (hmain := hmain m Variants.none) (hA := A_eq m pf hO) (hpf := hpf) (hΦ := fun _ _ => rfl)

/-- The run read at the result and the arguments. -/
theorem run_main (hpf : ∀ c j, V m c (pre0.ref j) = pf j) (ρ : Dev nD → PrngReg) : θ_run defs (onTc (τ := τ) (main (F := F))) ⟨m, fun _ => 0, ρ⟩ (fun r => (∀ c : Dev nD,
      r.2.mem ((c.tc : Thread nD τ).loc main_v34) = (dats m pf hO 0 c).arrAt 7 (cfgM pf hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c).1 7,
      ((h.1 c).1 0).trans (((dats m pf hO 0 c).arrAt_in 0 rfl _).trans ((A_eq m pf hO c 0).trans (V_arg m c main_arg0 (by simp)))),
      ((h.1 c).2 main_arg1 (by decide : main_arg1 ∈ Pipeline.restRefs sig spec0)).trans (V_arg m c main_arg1 (by simp)),
      ((h.1 c).1 1).trans (((dats m pf hO 0 c).arrAt_in 1 rfl _).trans ((A_eq m pf hO c 1).trans (V_arg m c main_arg2 (by simp)))),
      ((h.1 c).1 2).trans (((dats m pf hO 0 c).arrAt_in 2 rfl _).trans ((A_eq m pf hO c 2).trans (V_arg m c main_arg3 (by simp)))),
      ((h.1 c).1 3).trans (((dats m pf hO 0 c).arrAt_in 3 rfl _).trans ((A_eq m pf hO c 3).trans (V_arg m c main_arg4 (by simp))))⟩, h.2⟩)
    (run_quiescent m pf hO hpf ρ)

end Cert.Kernel2Ideal.Moe

end
-- ==== Proof.Moe.Look.lean ====
/-
  Looking a tile's pair of experts up: the number of groups that end at or before it, clamped to the last group.
-/
module

public import Idealize.ShloMosaic.Lib.StableHlo.Predicate
public import Idealize.ShloMosaic.Lib.ValueIdx
public import Idealize.ShloMosaic.Lib.Pointwise

@[expose] public section

noncomputable section

namespace Cert.Look

open Idealize.ShloMosaic

/-- The group a position falls in, given which of the 24 groups end at or before it. -/
def group (past : Fin 24 → BitVec 1) : Fin 24 := ⟨min (Finset.univ.filter fun q => past q = 1#1).card 23, by omega⟩

/-- A small count, clamped to 23 and wrapped round if negative, is the count clamped. -/
theorem start_of_count (w : BitVec 32) (hw : w.toNat ≤ 24) :
    min (Scalar.select (IntOp.cmpi .slt (IntOp.minsi w 23#32) 0#32) (IntOp.addi (IntOp.minsi w 23#32) 24#32) (IntOp.minsi w 23#32)).toInt.toNat (24 - 1)
      = min w.toNat 23 := by
  obtain ⟨k, hk, rfl⟩ : ∃ k : ℕ, k ≤ 24 ∧ w = BitVec.ofNat 32 k := ⟨w.toNat, hw, (BitVec.ofNat_toNat _ _ |>.trans (by simp)).symm⟩
  interval_cases k <;> decide

/-- The look-up itself, over any number of positions. -/
theorem pick {n : Nat} (d : GatherDims ⟨1, ![24]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![24]⟩ : Shape).Idx → BitVec 32) (idx : IVec ⟨2, ![n, 1]⟩ 32) (mask : IVec ⟨2, ![n, 24]⟩ 1) (hw : 1 < 32)
    (h : (⟨2, ![n, 24]⟩ : Shape).ReducesTo [1] ⟨1, ![n]⟩) {u : Shape} (hu : 0 < u.numel) (cnt : IVec ⟨1, ![n]⟩ 32)
    (hcnt : cnt = Host.reduce IntOp.addi (extui 32 mask hw) (constantI u 32 0#32) h hu) (p : Fin n)
    (hidx : idx (ix2 p 0) = Scalar.select (IntOp.cmpi .slt (IntOp.minsi (cnt (ix1 p)) 23#32) 0#32)
      (IntOp.addi (IntOp.minsi (cnt (ix1 p)) 23#32) 24#32) (IntOp.minsi (cnt (ix1 p)) 23#32)) :
    Host.gather d x idx (ix1 p) = x (ix1 (group fun q => mask (ix2 p q))) := by
  have e1 : (ix1 p : (⟨1, ![n]⟩ : Shape).Idx) = Shape.Idx.ofFin p := by
    funext a; match a with | ⟨0, _⟩ => rfl
  have hc : (cnt (ix1 p)).toNat = (Finset.univ.filter fun q => mask (ix2 p q) = 1#1).card := by
    have e2 : ∀ q : Fin 24, (StableHlo.Predicate.ij ((ix1 p : (⟨1, ![n]⟩ : Shape).Idx) 0) q : (⟨2, ![n, 24]⟩ : Shape).Idx) = ix2 p q := fun q => by
      funext a; match a with
      | ⟨0, _⟩ => rfl
      | ⟨1, _⟩ => rfl
    rw [hcnt, StableHlo.Predicate.toNat_reduce_count_cols (by norm_num)]
    simp only [e2]
  have hle : (cnt (ix1 p)).toNat ≤ 24 := by
    rw [hc]; exact (Finset.card_le_univ _).trans (by simp)
  rw [e1, StableHlo.Predicate.gather_take d hcoll hob hsim hivd x idx p (by norm_num)]
  have e3 : (StableHlo.Predicate.ixP p : (⟨2, ![n, 1]⟩ : Shape).Idx) = ix2 p 0 := by
    funext a; match a with
    | ⟨0, _⟩ => rfl
    | ⟨1, _⟩ => rfl
  refine congrArg x ?_
  funext a
  match a with
  | ⟨0, _⟩ =>
    apply Fin.ext
    show min (idx (StableHlo.Predicate.ixP p)).toInt.toNat (24 - 1) = min (Finset.univ.filter fun q => mask (ix2 p q) = 1#1).card 23
    rw [e3, hidx, start_of_count _ hle, hc]

end Cert.Look

end
-- ==== Proof.Moe.Tables.lean ====
/-
  The look-up tables the host prepares for the experts' call, entry by entry.
-/
module

public import proofs.«01_k».proof.Proof.Moe.Entry
public import proofs.«01_k».proof.Proof.Moe.Look
public import Idealize.ShloMosaic.Lib.StableHlo.ReadAt
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The number of tiles of each group, rounded up, from the count of its rows raised by 255; the tile each group ends at. -/
def rounds (x : IVec S24 32) : IVec S24 32 :=
  select (andi (cmpi .ne (signi x) (broadcastInDim S24 ![] bcast_S_S24 (signi (constantI S_ 32 256#32))))
      (cmpi .ne (Host.remsi x (broadcastInDim S24 ![] bcast_S_S24 (constantI S_ 32 256#32))) (broadcastInDim S24 ![] bcast_S_S24 (constantI S_ 32 0#32))))
    (subi (Host.divsi x (broadcastInDim S24 ![] bcast_S_S24 (constantI S_ 32 256#32))) (broadcastInDim S24 ![] bcast_S_S24 (constantI S_ 32 1#32)))
    (Host.divsi x (broadcastInDim S24 ![] bcast_S_S24 (constantI S_ 32 256#32)))
def ends (x : IVec S24 32) : IVec S24 32 :=
  Host.reduceWindow IntOp.addi ![24] ![1] ![23] ![0] (rounds x) (broadcastInDim S_ ![] bcast_S_S_ (constantI S_ 32 0#32)) reduceWindows_S24_S24_w24s1p23_0 h_S_

/-- The count of rows of each group. -/
def rowsOf (x : FVec F S24x128 .f32) : IVec S24 32 :=
  fptosi 32 (shapeCast S24 (extractStridedSlice S24x1 ![0, 0] x slices_S24x128_S24x1_0_0) shapeCasts_S24x1_S24)

/-- The word a look-up starts from: the count, clamped to 23. -/
def start (n : IVec S88 32) : IVec S88x1 32 :=
  broadcastInDim S88x1 ![0] bcast_S88_S88x1_0 (select
    (cmpi .slt (minsi n (broadcastInDim S88 ![] bcast_S_S88 (constantI S_ 32 23#32))) (broadcastInDim S88 ![] bcast_S_S88 (constantI S_ 32 0#32)))
    (addi (minsi n (broadcastInDim S88 ![] bcast_S_S88 (constantI S_ 32 23#32))) (broadcastInDim S88 ![] bcast_S_S88 (constantI S_ 32 24#32)))
    (minsi n (broadcastInDim S88 ![] bcast_S_S88 (constantI S_ 32 23#32))))

section Stages

variable (W : Valuation τ sig (Elt F))

/-- Each stretch of the host's operations, from any contents before it. -/
theorem s0_v6 : StableHlo.after (hostOps0 (F := F)) W (Proc.devRef .tc main_v6) = subi (addi (rowsOf (F := F) (W (Proc.devRef .tc main_arg1)))
    (broadcastInDim S24 ![] bcast_S_S24 (constantI S_ 32 256#32))) (broadcastInDim S24 ![] bcast_S_S24 (constantI S_ 32 1#32)) := by
  after_reads_simp
  rfl
theorem s0_c : StableHlo.after (hostOps0 (F := F)) W (Proc.devRef .tc main_c) = fun i => lit0 (S24.rowMajor i) := by
  after_reads_simp
  rfl
theorem s0_c0 : StableHlo.after (hostOps0 (F := F)) W (Proc.devRef .tc main_c_0) = fun i => lit1 (S24.rowMajor i) := by
  after_reads_simp
  rfl
theorem s0_c3 : StableHlo.after (hostOps0 (F := F)) W (Proc.devRef .tc main_c_3) = constantI S_ 32 256#32 := by
  after_reads_simp
theorem s1_c : StableHlo.after (hostOps0_1 (F := F)) W (Proc.devRef .tc main_c) = W (Proc.devRef .tc main_c) := by
  after_reads_simp
theorem s1_c0 : StableHlo.after (hostOps0_1 (F := F)) W (Proc.devRef .tc main_c_0) = W (Proc.devRef .tc main_c_0) := by
  after_reads_simp
theorem s2_c : StableHlo.after (hostOps0_2 (F := F)) W (Proc.devRef .tc main_c) = W (Proc.devRef .tc main_c) := by
  after_reads_simp
theorem s2_c0 : StableHlo.after (hostOps0_2 (F := F)) W (Proc.devRef .tc main_c_0) = W (Proc.devRef .tc main_c_0) := by
  after_reads_simp

theorem s1_v7 (h : W (Proc.devRef .tc main_c_3) = constantI S_ 32 256#32) :
    StableHlo.after (hostOps0_1 (F := F)) W (Proc.devRef .tc main_v7) = rounds (W (Proc.devRef .tc main_v6)) := by
  after_reads_simp
  simp -implicitDefEqProofs only [StableHlo.TRef.toBuf, StableHlo.TRef.ofBuf, cast_cast, cast_eq, id_eq, h]
  rfl
theorem s2_v8 : StableHlo.after (hostOps0_2 (F := F)) W (Proc.devRef .tc main_v8) = Host.reduceWindow IntOp.addi ![24] ![1] ![23] ![0] (W (Proc.devRef .tc main_v7))
    (broadcastInDim S_ ![] bcast_S_S_ (constantI S_ 32 0#32)) reduceWindows_S24_S24_w24s1p23_0 h_S_ := by
  after_reads_simp
  simp -implicitDefEqProofs only [StableHlo.TRef.toBuf, StableHlo.TRef.ofBuf, cast_cast, cast_eq]

/-- Which groups end at or before each tile. -/
def mask (e : IVec S24 32) : IVec S88x24 1 := cmpi .sge
    (broadcastInDim S88x24 ![0, 1] bcast_S88x1_S88x24_0_1 (broadcastInDim S88x1 ![0] bcast_S88_S88x1_0 (iotaInDim S88 32 0)))
    (broadcastInDim S88x24 ![0, 1] bcast_S1x24_S88x24_0_1 (broadcastInDim S1x24 ![1] bcast_S24_S1x24_1 e))
def count (e : IVec S24 32) : IVec S88 32 :=
  Host.reduce IntOp.addi (extui 32 (mask e) natLt_1_32) (constantI S_ 32 0#32) reducesTo_S88x24_S88_d1 h_S_

theorem s3_v25 : StableHlo.after (hostOps0_3 (F := F)) W (Proc.devRef .tc main_v25)
    = Host.gather gather_S24_S88x1_S88_n_0_n_n_0_1_1 (W (Proc.devRef .tc main_c)) (start (count (W (Proc.devRef .tc main_v8)))) := by
  unfold start count mask
  after_reads_simp
theorem s3_v32 : StableHlo.after (hostOps0_3 (F := F)) W (Proc.devRef .tc main_v32)
    = Host.gather gather_S24_S88x1_S88_n_0_n_n_0_1_1 (W (Proc.devRef .tc main_c_0)) (start (count (W (Proc.devRef .tc main_v8)))) := by
  unfold start count mask
  after_reads_simp
theorem s3_v33 : StableHlo.after (hostOps0_3 (F := F)) W (Proc.devRef .tc main_v33) = extractStridedSlice S1 ![23] (W (Proc.devRef .tc main_v8)) slices_S24_S1_23 := by
  after_reads_simp

end Stages

/-- The stretches one after the other. -/
theorem V_eq (c : Dev nD) (b : Ref sig .tc) : V m c b = StableHlo.after hostOps0_3 (StableHlo.after hostOps0_2 (StableHlo.after hostOps0_1
    (StableHlo.after hostOps0 (fun b => m (c, b))))) (Proc.devRef .tc b) := by
  unfold V
  rw [List.flatten_cons, List.flatten_cons, List.flatten_cons, List.flatten_cons, List.flatten_nil, List.append_nil,
    StableHlo.after_append, StableHlo.after_append, StableHlo.after_append]

/-- The tile each group ends at. -/
def E (c : Dev nD) : IVec S24 32 := ends (subi (addi (rowsOf (m ((c : Thread nD τ).loc main_arg1)))
    (broadcastInDim S24 ![] bcast_S_S24 (constantI S_ 32 256#32))) (broadcastInDim S24 ![] bcast_S_S24 (constantI S_ 32 1#32)))

theorem v8_eq (c : Dev nD) : StableHlo.after hostOps0_2 (StableHlo.after hostOps0_1
    (StableHlo.after hostOps0 (fun b => m (c, b)))) (Proc.devRef .tc main_v8) = E m c := by
  rw [s2_v8, s1_v7 _ (s0_c3 _), s0_v6]
  rfl

theorem v25_eq (c : Dev nD) : V m c main_v25 = Host.gather gather_S24_S88x1_S88_n_0_n_n_0_1_1 (fun i => lit0 (S24.rowMajor i)) (start (count (E m c))) := by
  rw [V_eq, s3_v25, v8_eq, s2_c, s1_c, s0_c]
theorem v32_eq (c : Dev nD) : V m c main_v32 = Host.gather gather_S24_S88x1_S88_n_0_n_n_0_1_1 (fun i => lit1 (S24.rowMajor i)) (start (count (E m c))) := by
  rw [V_eq, s3_v32, v8_eq, s2_c0, s1_c0, s0_c0]
theorem v33_eq (c : Dev nD) : V m c main_v33 = extractStridedSlice S1 ![23] (E m c) slices_S24_S1_23 := by
  rw [V_eq, s3_v33, v8_eq]

theorem start_at (n : IVec S88 32) (j : Fin 88) : start n (ix2 j 0) = Scalar.select (IntOp.cmpi .slt (IntOp.minsi (n (ix1 j)) 23#32) 0#32)
      (IntOp.addi (IntOp.minsi (n (ix1 j)) 23#32) 24#32) (IntOp.minsi (n (ix1 j)) 23#32) := by
  unfold start
  pointwise

/-- Whether a group ends at or before tile `j`. -/
abbrev past (e : IVec S24 32) (j : BitVec 32) (q : Fin 24) : BitVec 1 := IntOp.cmpi .sge j (e (ix1 q))

theorem mask_at (e : IVec S24 32) (j : Fin 88) (q : Fin 24) : mask e (ix2 j q) = past e (BitVec.ofNat 32 j.val) q := by
  unfold mask past
  pointwise

/-- The first and the second expert of tile `j`, and the number of tiles in use. -/
theorem lo_at (c : Dev nD) (j : Fin 88) :
    (V m c main_v25 : IVec S88 32) (ix1 j) = lit0 (S24.rowMajor (ix1 (Look.group (past (E m c) (BitVec.ofNat 32 j.val))))) := by
  rw [v25_eq]
  refine (Look.pick gather_S24_S88x1_S88_n_0_n_n_0_1_1 rfl rfl rfl rfl _ _ (mask (E m c)) natLt_1_32 reducesTo_S88x24_S88_d1 h_S_ (count (E m c))
    rfl j (start_at _ j)).trans ?_
  exact congrArg (fun g => lit0 (S24.rowMajor (ix1 (Look.group g)))) (funext fun q => mask_at _ j q)
theorem hi_at (c : Dev nD) (j : Fin 88) :
    (V m c main_v32 : IVec S88 32) (ix1 j) = lit1 (S24.rowMajor (ix1 (Look.group (past (E m c) (BitVec.ofNat 32 j.val))))) := by
  rw [v32_eq]
  refine (Look.pick gather_S24_S88x1_S88_n_0_n_n_0_1_1 rfl rfl rfl rfl _ _ (mask (E m c)) natLt_1_32 reducesTo_S88x24_S88_d1 h_S_ (count (E m c))
    rfl j (start_at _ j)).trans ?_
  exact congrArg (fun g => lit1 (S24.rowMajor (ix1 (Look.group g)))) (funext fun q => mask_at _ j q)
theorem used_at (c : Dev nD) : (V m c main_v33 : IVec S1 32) (ix1 0) = E m c (ix1 23) := by
  rw [v33_eq]
  pointwise

/-- Every expert named is one of the sixteen. -/
theorem lit0_lt : ∀ i, (lit0 i).toNat < 16 := by decide
theorem lit1_lt : ∀ i, (lit1 i).toNat < 16 := by decide

theorem lo_lt (c : Dev nD) (j : Fin 88) : ((V m c main_v25 : IVec S88 32) (ix1 j)).toNat < 16 := by rw [lo_at]; exact lit0_lt _
theorem hi_lt (c : Dev nD) (j : Fin 88) : ((V m c main_v32 : IVec S88 32) (ix1 j)).toNat < 16 := by rw [hi_at]; exact lit1_lt _

end Cert.Kernel2Ideal.Moe

end
-- ==== Proof.Moe.Ok.lean ====
/-
  The index maps' words: every block of an expert lies inside its array.
-/
module

public import proofs.«01_k».proof.Proof.Moe.Tables
public import Idealize.ShloMosaic.Lib.Pipeline.ValueKit.Geometry

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The element of a table an index map reads at a grid point is the point's own. -/
theorem emb_point (i : grid0.Coords) (h : ∀ a, (k0_off1 i) a + S1.size a ≤ S88.size a) (x : (Rect.unit (s := S88) (k0_off1 i) S1.size h).shape.Idx) :
    (Rect.unit (s := S88) (k0_off1 i) S1.size h).emb x = ix1 (i 0) := by
  have hi : (i 0).val < 88 := (i 0).isLt
  funext a
  have hx : (x a).val < 1 := by fin_cases a; exact (x 0).isLt
  apply Fin.ext
  fin_cases a
  show (BitVec.ofNat 32 (i 0).val).toNat + 1 * (x 0).val = (i 0).val
  have : (x 0).val < 1 := hx
  rw [BitVec.toNat_ofNat, Nat.mod_eq_of_lt (by omega)]
  omega

theorem at0 (pf : pre0.Contents (Elt F)) (i : grid0.Coords) :
    pf.at 0 (Rect.unit (s := S88) (k0_off1 i) S1.size (k0_off1_inb i)) numel1_S1 = pf 0 (ix1 (i 0)) :=
  congrArg (pf 0) (emb_point i _ _)
theorem at1 (pf : pre0.Contents (Elt F)) (i : grid0.Coords) :
    pf.at 1 (Rect.unit (s := S88) (k0_off1 i) S1.size (k0_off1_inb i)) numel1_S1 = pf 1 (ix1 (i 0)) :=
  congrArg (pf 1) (emb_point i _ _)

/-- The blocks of the weights: layer 1, the expert the table names. -/
theorem tr1 (pf : pre0.Contents (Elt F)) (i : grid0.Coords) : cc0_transform_1 k0_off1_inb numel1_S1 pf i = ![1, BitVec.toNat (w := 32) (pf 0 (ix1 (i 0))), 0, 0] :=
  congrArg (fun w : BitVec 32 => ![1, w.toNat, 0, 0]) (at0 pf i)
theorem tr2 (pf : pre0.Contents (Elt F)) (i : grid0.Coords) : cc0_transform_2 k0_off1_inb numel1_S1 pf i = ![1, BitVec.toNat (w := 32) (pf 0 (ix1 (i 0))), 0, 0] :=
  congrArg (fun w : BitVec 32 => ![1, w.toNat, 0, 0]) (at0 pf i)
theorem tr3 (pf : pre0.Contents (Elt F)) (i : grid0.Coords) : cc0_transform_3 k0_off1_inb numel1_S1 pf i = ![1, BitVec.toNat (w := 32) (pf 0 (ix1 (i 0))), 0, 0] :=
  congrArg (fun w : BitVec 32 => ![1, w.toNat, 0, 0]) (at0 pf i)
theorem tr4 (pf : pre0.Contents (Elt F)) (i : grid0.Coords) : cc0_transform_4 k0_off1_inb numel1_S1 pf i = ![1, BitVec.toNat (w := 32) (pf 1 (ix1 (i 0))), 0, 0] :=
  congrArg (fun w : BitVec 32 => ![1, w.toNat, 0, 0]) (at1 pf i)
theorem tr5 (pf : pre0.Contents (Elt F)) (i : grid0.Coords) : cc0_transform_5 k0_off1_inb numel1_S1 pf i = ![1, BitVec.toNat (w := 32) (pf 1 (ix1 (i 0))), 0, 0] :=
  congrArg (fun w : BitVec 32 => ![1, w.toNat, 0, 0]) (at1 pf i)
theorem tr6 (pf : pre0.Contents (Elt F)) (i : grid0.Coords) : cc0_transform_6 k0_off1_inb numel1_S1 pf i = ![1, BitVec.toNat (w := 32) (pf 1 (ix1 (i 0))), 0, 0] :=
  congrArg (fun w : BitVec 32 => ![1, w.toNat, 0, 0]) (at1 pf i)

/-- With every word below sixteen, every block lies inside its array. -/
theorem ok_of_lt (pf : pre0.Contents (Elt F)) (h0 : ∀ j, BitVec.toNat (w := 32) (pf 0 (ix1 j)) < 16) (h1 : ∀ j, BitVec.toNat (w := 32) (pf 1 (ix1 j)) < 16) :
    ok0 (F := F) pf := by
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [tr1]; intro a; have := h0 (i 0); generalize BitVec.toNat (w := 32) (pf 0 (ix1 (i 0))) = n at this ⊢; fin_cases a <;> simp <;> omega
  · rw [tr2]; intro a; have := h0 (i 0); generalize BitVec.toNat (w := 32) (pf 0 (ix1 (i 0))) = n at this ⊢; fin_cases a <;> simp <;> omega
  · rw [tr3]; intro a; have := h0 (i 0); generalize BitVec.toNat (w := 32) (pf 0 (ix1 (i 0))) = n at this ⊢; fin_cases a <;> simp <;> omega
  · rw [tr4]; intro a; have := h1 (i 0); generalize BitVec.toNat (w := 32) (pf 1 (ix1 (i 0))) = n at this ⊢; fin_cases a <;> simp <;> omega
  · rw [tr5]; intro a; have := h1 (i 0); generalize BitVec.toNat (w := 32) (pf 1 (ix1 (i 0))) = n at this ⊢; fin_cases a <;> simp <;> omega
  · rw [tr6]; intro a; have := h1 (i 0); generalize BitVec.toNat (w := 32) (pf 1 (ix1 (i 0))) = n at this ⊢; fin_cases a <;> simp <;> omega

/-- The tables as the launch holds them: on the one device, the host's. -/
theorem tbl_eq (c : Dev nD) (k : Fin 3) : tbl m k = V m c (pre0.ref k) := (V_pre m c k).symm
theorem tbl0_at (c : Dev nD) (j : Fin 88) : tbl m 0 (ix1 j) = lit0 (S24.rowMajor (ix1 (Look.group (past (E m c) (BitVec.ofNat 32 j.val))))) :=
  (congrFun (tbl_eq m c 0) (ix1 j)).trans (lo_at m c j)
theorem tbl1_at (c : Dev nD) (j : Fin 88) : tbl m 1 (ix1 j) = lit1 (S24.rowMajor (ix1 (Look.group (past (E m c) (BitVec.ofNat 32 j.val))))) :=
  (congrFun (tbl_eq m c 1) (ix1 j)).trans (hi_at m c j)
theorem tbl2_at (c : Dev nD) : tbl m 2 (ix1 0) = E m c (ix1 23) :=
  (congrFun (tbl_eq m c 2) (ix1 0)).trans (used_at m c)

theorem ok : Ok m := by
  have c : Dev nD := default
  refine ok_of_lt _ (fun j => ?_) (fun j => ?_)
  · rw [tbl0_at m c]; exact lit0_lt _
  · rw [tbl1_at m c]; exact lit1_lt _

/-- The tables with all that is needed of them. -/
theorem tables : ∃ (pf : pre0.Contents (Elt F)) (_ : ok0 (F := F) pf), (∀ (c : Dev nD) (j : Fin 3), V m c (pre0.ref j) = pf j) ∧
    (∀ (c : Dev nD) (j : Fin 88), pf 0 (ix1 j) = lit0 (S24.rowMajor (ix1 (Look.group (past (E m c) (BitVec.ofNat 32 j.val)))))) ∧
    (∀ (c : Dev nD) (j : Fin 88), pf 1 (ix1 j) = lit1 (S24.rowMajor (ix1 (Look.group (past (E m c) (BitVec.ofNat 32 j.val)))))) ∧
    ∀ c : Dev nD, pf 2 (ix1 0) = E m c (ix1 23) :=
  ⟨tbl m, ok m, V_pre m, tbl0_at m, tbl1_at m, tbl2_at m⟩

end Cert.Kernel2Ideal.Moe

end
-- ==== Proof.Moe.Blocks.lean ====
/-
  The experts' call: its blocks as elements of the arguments, and its result array as the reference's.
-/
module

public import proofs.«01_k».proof.Proof.Moe.Frame
public import proofs.«01_k».proof.Proof.Moe.Ok
public import Idealize.ShloMosaic.Lib.Pipeline.ValueKit.Geometry

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

variable (pf : pre0.Contents (Elt F)) (hO : ok0 (F := F) pf)

/-- The tile of a grid point. -/
def tj (t : Fin (cfgM pf hO).N) : Fin 88 := ⟨(grid0.coords t 0).val, (grid0.coords t 0).isLt⟩

theorem word_tile (i : grid0.Coords) : (BitVec.ofNat 32 (i 0).val).toNat = (i 0).val := by
  have hi : (i 0).val < 88 := (i 0).isLt
  rw [BitVec.toNat_ofNat, Nat.mod_eq_of_lt (by omega)]

theorem tr0 (i : grid0.Coords) : cc0_transform_0 i = ![(i 0).val, 0] := congrArg (fun n => ![n, 0]) (word_tile i)
theorem tr7 (i : grid0.Coords) : cc0_transform_7 i = ![(i 0).val, 0] := congrArg (fun n => ![n, 0]) (word_tile i)

theorem index_0 (t : Fin (cfgM pf hO).N) : ((cfgM pf hO).win 0).index t = ![(tj pf hO t).val, 0] := tr0 _
theorem index_7 (t : Fin (cfgM pf hO).N) : ((cfgM pf hO).win 7).index t = ![(tj pf hO t).val, 0] := tr7 _
theorem index_1 (t : Fin (cfgM pf hO).N) (v : BitVec 32) (hv : pf 0 (ix1 (tj pf hO t)) = v) :
    ((cfgM pf hO).win 1).index t = ![1, v.toNat, 0, 0] := by subst hv; exact tr1 pf _
theorem index_2 (t : Fin (cfgM pf hO).N) (v : BitVec 32) (hv : pf 0 (ix1 (tj pf hO t)) = v) :
    ((cfgM pf hO).win 2).index t = ![1, v.toNat, 0, 0] := by subst hv; exact tr2 pf _
theorem index_3 (t : Fin (cfgM pf hO).N) (v : BitVec 32) (hv : pf 0 (ix1 (tj pf hO t)) = v) :
    ((cfgM pf hO).win 3).index t = ![1, v.toNat, 0, 0] := by subst hv; exact tr3 pf _
theorem index_4 (t : Fin (cfgM pf hO).N) (v : BitVec 32) (hv : pf 1 (ix1 (tj pf hO t)) = v) :
    ((cfgM pf hO).win 4).index t = ![1, v.toNat, 0, 0] := by subst hv; exact tr4 pf _
theorem index_5 (t : Fin (cfgM pf hO).N) (v : BitVec 32) (hv : pf 1 (ix1 (tj pf hO t)) = v) :
    ((cfgM pf hO).win 5).index t = ![1, v.toNat, 0, 0] := by subst hv; exact tr5 pf _
theorem index_6 (t : Fin (cfgM pf hO).N) (v : BitVec 32) (hv : pf 1 (ix1 (tj pf hO t)) = v) :
    ((cfgM pf hO).win 6).index t = ![1, v.toNat, 0, 0] := by subst hv; exact tr6 pf _

/-- Where the result's blocks lie. -/
theorem emb7 (t : Fin (cfgM pf hO).N) (r : Fin 256) (d : Fin 2048) : (((cfgM pf hO).win 7).blk t).view.emb (ix2 r d) =
    ix2 ⟨256 * (tj pf hO t).val + r.val, by have := (tj pf hO t).isLt; omega⟩ d := by
  funext a; apply Fin.ext; fin_cases a <;> blk_simp [index_7 pf hO t] <;> first | rfl | exact congrArg (· + _) (Nat.mul_comm _ _)

theorem x_blk (c : Dev nD) (t : Fin (cfgM pf hO).N) (r : Fin 256) (k : Fin 1024) : iblk m pf hO c 0 t (ix2 r k) =
    m ((c : Thread nD τ).loc main_arg0) (ix2 ⟨256 * (tj pf hO t).val + r.val, by have := (tj pf hO t).isLt; omega⟩ k) := by
  blk_simp [iblk]
  refine Eq.trans (congrArg (V m c main_arg0) ?_) (congrFun (V_arg m c main_arg0 (by simp)) _)
  funext a; apply Fin.ext; fin_cases a <;> blk_simp [index_0 pf hO t] <;> first | rfl | exact congrArg (· + _) (Nat.mul_comm _ _)

theorem wg_lo (c : Dev nD) (t : Fin (cfgM pf hO).N) (v : BitVec 32) (hv : pf 0 (ix1 (tj pf hO t)) = v) (h : v.toNat < 16) (k : Fin 1024) (f : Fin 512) :
    iblk m pf hO c 1 t (ix4 0 0 k f) = m ((c : Thread nD τ).loc main_arg2) (ix4 1 ⟨v.toNat, h⟩ k f) := by
  blk_simp [iblk]
  refine Eq.trans (congrArg (V m c main_arg2) ?_) (congrFun (V_arg m c main_arg2 (by simp)) _)
  funext a; apply Fin.ext; fin_cases a <;> blk_simp [index_1 pf hO t v hv] <;> first | rfl | exact Nat.add_comm _ _

theorem wu_lo (c : Dev nD) (t : Fin (cfgM pf hO).N) (v : BitVec 32) (hv : pf 0 (ix1 (tj pf hO t)) = v) (h : v.toNat < 16) (k : Fin 1024) (f : Fin 512) :
    iblk m pf hO c 2 t (ix4 0 0 k f) = m ((c : Thread nD τ).loc main_arg3) (ix4 1 ⟨v.toNat, h⟩ k f) := by
  blk_simp [iblk]
  refine Eq.trans (congrArg (V m c main_arg3) ?_) (congrFun (V_arg m c main_arg3 (by simp)) _)
  funext a; apply Fin.ext; fin_cases a <;> blk_simp [index_2 pf hO t v hv] <;> first | rfl | exact Nat.add_comm _ _

theorem wd_lo (c : Dev nD) (t : Fin (cfgM pf hO).N) (v : BitVec 32) (hv : pf 0 (ix1 (tj pf hO t)) = v) (h : v.toNat < 16) (k : Fin 1024) (f : Fin 512) :
    iblk m pf hO c 3 t (ix4 0 0 f k) = m ((c : Thread nD τ).loc main_arg4) (ix4 1 ⟨v.toNat, h⟩ f k) := by
  blk_simp [iblk]
  refine Eq.trans (congrArg (V m c main_arg4) ?_) (congrFun (V_arg m c main_arg4 (by simp)) _)
  funext a; apply Fin.ext; fin_cases a <;> blk_simp [index_3 pf hO t v hv] <;> first | rfl | exact Nat.add_comm _ _

theorem wg_hi (c : Dev nD) (t : Fin (cfgM pf hO).N) (v : BitVec 32) (hv : pf 1 (ix1 (tj pf hO t)) = v) (h : v.toNat < 16) (k : Fin 1024) (f : Fin 512) :
    iblk m pf hO c 4 t (ix4 0 0 k f) = m ((c : Thread nD τ).loc main_arg2) (ix4 1 ⟨v.toNat, h⟩ k f) := by
  blk_simp [iblk]
  refine Eq.trans (congrArg (V m c main_arg2) ?_) (congrFun (V_arg m c main_arg2 (by simp)) _)
  funext a; apply Fin.ext; fin_cases a <;> blk_simp [index_4 pf hO t v hv] <;> first | rfl | exact Nat.add_comm _ _

theorem wu_hi (c : Dev nD) (t : Fin (cfgM pf hO).N) (v : BitVec 32) (hv : pf 1 (ix1 (tj pf hO t)) = v) (h : v.toNat < 16) (k : Fin 1024) (f : Fin 512) :
    iblk m pf hO c 5 t (ix4 0 0 k f) = m ((c : Thread nD τ).loc main_arg3) (ix4 1 ⟨v.toNat, h⟩ k f) := by
  blk_simp [iblk]
  refine Eq.trans (congrArg (V m c main_arg3) ?_) (congrFun (V_arg m c main_arg3 (by simp)) _)
  funext a; apply Fin.ext; fin_cases a <;> blk_simp [index_5 pf hO t v hv] <;> first | rfl | exact Nat.add_comm _ _

theorem wd_hi (c : Dev nD) (t : Fin (cfgM pf hO).N) (v : BitVec 32) (hv : pf 1 (ix1 (tj pf hO t)) = v) (h : v.toNat < 16) (k : Fin 1024) (f : Fin 512) :
    iblk m pf hO c 6 t (ix4 0 0 f k) = m ((c : Thread nD τ).loc main_arg4) (ix4 1 ⟨v.toNat, h⟩ f k) := by
  blk_simp [iblk]
  refine Eq.trans (congrArg (V m c main_arg4) ?_) (congrFun (V_arg m c main_arg4 (by simp)) _)
  funext a; apply Fin.ext; fin_cases a <;> blk_simp [index_6 pf hO t v hv] <;> first | rfl | exact Nat.add_comm _ _

end Cert.Kernel2Ideal.Moe

end
-- ==== Proof.Moe.Math.lean ====
/-
  One expert on one row over the extended reals, and the two facts the equality rests on: the logistic written with a
  hyperbolic tangent is the logistic, and a sum over all experts under a one-hot gate is the one expert's term.
-/
module

public import Idealize.ShloMosaic.PureOps.Ideal.Laws
public import Idealize.ShloMosaic.Lib.Pointwise

@[expose] public section

noncomputable section

namespace Cert.Moe

open Idealize.ShloMosaic

theorem one_bits : Ideal.ofBits .f32 1065353216#32 = ((1 : ℝ) : EReal) := by
  simp [Ideal.ofBits, Ideal.ieee, -EReal.coe_mul]; norm_num
theorem half_bits : Ideal.ofBits .f32 1056964608#32 = ((1 / 2 : ℝ) : EReal) := by
  simp [Ideal.ofBits, Ideal.ieee, -EReal.coe_mul]; norm_num

/-- The gated activation of the two hidden values. -/
def act (g u : EReal) : EReal := g * Ideal.div 1 (1 + Ideal.exp (-g)) * u

theorem logistic_tanh (x : ℝ) : 1 / 2 * Real.tanh (1 / 2 * x) + 1 / 2 = 1 / (1 + Real.exp (-x)) := by
  have hp := Real.exp_pos (1 / 2 * x)
  have hn : Real.exp (-(1 / 2 * x)) = (Real.exp (1 / 2 * x))⁻¹ := Real.exp_neg _
  have hx : Real.exp (-x) = (Real.exp (1 / 2 * x))⁻¹ * (Real.exp (1 / 2 * x))⁻¹ := by
    rw [← hn, ← Real.exp_add]; congr 1; ring
  rw [Real.tanh_eq_sinh_div_cosh, Real.sinh_eq, Real.cosh_eq, hn, hx]
  field_simp
  ring

/-- Written with a hyperbolic tangent, at every extended real. -/
theorem silu (g : EReal) : g * (((1 / 2 : ℝ) : EReal) * Ideal.tanh (((1 / 2 : ℝ) : EReal) * g) + ((1 / 2 : ℝ) : EReal)) = g * Ideal.div 1 (1 + Ideal.exp (-g)) := by
  have hh : (0 : ℝ) < 1 / 2 := by norm_num
  induction g with
  | bot =>
    rw [EReal.coe_mul_bot_of_pos hh, Ideal.tanh_bot, EReal.neg_bot, Ideal.exp_top]
    have e1 : ((1 / 2 : ℝ) : EReal) * (-1) + ((1 / 2 : ℝ) : EReal) = 0 := by
      rw [← EReal.coe_one, ← EReal.coe_neg, ← EReal.coe_mul, ← EReal.coe_add]; norm_num
    have e2 : Ideal.div 1 (1 + ⊤) = 0 := by
      have h : (1 : EReal) + ⊤ = ⊤ := EReal.coe_add_top 1
      rw [h]; simp [Ideal.div]
    rw [e1, e2]
  | top =>
    rw [EReal.coe_mul_top_of_pos hh, Ideal.tanh_top, EReal.neg_top, Ideal.exp_bot]
    have e1 : ((1 / 2 : ℝ) : EReal) * 1 + ((1 / 2 : ℝ) : EReal) = 1 := by
      rw [mul_one, ← EReal.coe_add]; norm_num
    have e2 : Ideal.div 1 (1 + 0) = 1 := by
      rw [add_zero, ← EReal.coe_one, Ideal.div_coe one_ne_zero]; norm_num
    rw [e1, e2]
  | coe x =>
    have hx : (1 + Real.exp (-x)) ≠ 0 := by have := Real.exp_pos (-x); positivity
    rw [← EReal.coe_mul, Ideal.tanh_coe, ← EReal.coe_neg, Ideal.exp_coe, ← EReal.coe_one, ← EReal.coe_add, Ideal.div_coe hx,
      ← EReal.coe_mul, ← EReal.coe_add, logistic_tanh x]
    rw [EReal.coe_one, one_mul]

/-- A row's product with a column. -/
def dotr (x w : Fin 1024 → EReal) : EReal := ∑ d : Fin 1024, x d * w d

/-- One expert's value at one column of a row. -/
def expert (x : Fin 1024 → EReal) (wg wu : Fin 512 → Fin 1024 → EReal) (wd : Fin 512 → EReal) : EReal :=
  ∑ f : Fin 512, act (dotr x (wg f)) (dotr x (wu f)) * wd f

/-- The gate's word as a value: one at the expert named, zero at the others. -/
theorem gated (e : Fin 16) (A W : Fin 16 → Fin 512 → EReal) (G : Fin 16 → EReal) (h1 : G e = 1) (h0 : ∀ a, a ≠ e → G a = 0) :
    ∑ a : Fin 16, ∑ f : Fin 512, A a f * G a * W a f = ∑ f : Fin 512, A e f * W e f := by
  rw [Finset.sum_eq_single e]
  · simp only [h1, mul_one]
  · intro a _ ha
    simp only [h0 a ha, mul_zero, zero_mul, Finset.sum_const_zero]
  · intro h; exact absurd (Finset.mem_univ e) h

end Cert.Moe

end
-- ==== Proof.Moe.Pay.lean ====
/-
  One grid point's payloads read at a row and a column: each half is one expert.
-/
module

public import proofs.«01_k».proof.Proof.Moe.Body
public import proofs.«01_k».proof.Proof.Moe.Math
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

variable (x0 : Vec Ideal S256x1024 .f32) (x1 x2 : Vec Ideal S1x1x1024x512 .f32) (x3 : Vec Ideal S1x1x512x1024 .f32)

theorem lo_apply (r : Fin 256) (d : Fin 1024) : k0_pay4 (F := Ideal) x0 x1 x2 x3 (ix2 r d) =
    Cert.Moe.expert (fun k => x0 (ix2 r k)) (fun f k => x1 (ix4 0 0 k f)) (fun f k => x2 (ix4 0 0 k f)) (fun f => x3 (ix4 0 0 f d)) := by
  unfold Cert.Moe.expert Cert.Moe.act Cert.Moe.dotr
  pointwise [k0_pay4, k0_pay3]
  refine Finset.sum_congr rfl fun f _ => ?_
  rw [← Cert.Moe.silu, ← Cert.Moe.half_bits]

theorem hi_apply (r : Fin 256) (d : Fin 1024) : k0_pay1 (F := Ideal) (k0_pay3 x0) (k0_pay5 x0 x1) x2 x3 (ix2 r d) =
    Cert.Moe.expert (fun k => x0 (ix2 r k)) (fun f k => x1 (ix4 0 0 k f)) (fun f k => x2 (ix4 0 0 k f)) (fun f => x3 (ix4 0 0 f d)) := by
  unfold Cert.Moe.expert Cert.Moe.act Cert.Moe.dotr
  pointwise [k0_pay1, k0_pay3, k0_pay5]
  refine Finset.sum_congr rfl fun f _ => ?_
  rw [← Cert.Moe.silu, ← Cert.Moe.half_bits]

theorem zero_apply (y : S256x2048.Idx) : k0_pay2 (F := Ideal) y = Ideal.ofBits .f32 0#32 := by
  pointwise [k0_pay2]

end Cert.Kernel2Ideal.Moe

end
-- ==== Proof.Moe.Stages.lean ====
/-
  The experts' reference in stages, and its result as the stages' composition.
-/
module

public import proofs.«01_k».proof.Proof.Gen.Reference2Ideal.Run
public import proofs.«01_k».proof.Proof.Moe.Look
public import proofs.«01_k».proof.Proof.Moe.Math
public import Idealize.ShloMosaic.Lib.Pointwise

@[expose] public section

set_option maxRecDepth 16384

noncomputable section

namespace Cert.Reference2Ideal.Moe

open Cert.Reference2Ideal Cert.Reference2Ideal.Gen Idealize.ShloMosaic Idealize.ShloMosaic.TcCoe

/-- The number of pieces of each pair of experts, from the count of its rows raised by 255; and the piece each ends at. -/
def rounds (x : IVec S24 32) : IVec S24 32 :=
  select (andi (cmpi .ne (signi x) (broadcastInDim S24 ![] bcast_S_S24 (signi (id (constantI S_ 32 256#32)))))
      (cmpi .ne (Host.remsi x (broadcastInDim S24 ![] bcast_S_S24 (id (constantI S_ 32 256#32)))) (broadcastInDim S24 ![] bcast_S_S24 (constantI S_ 32 0#32))))
    (subi (Host.divsi x (broadcastInDim S24 ![] bcast_S_S24 (id (constantI S_ 32 256#32)))) (broadcastInDim S24 ![] bcast_S_S24 (constantI S_ 32 1#32)))
    (Host.divsi x (broadcastInDim S24 ![] bcast_S_S24 (id (constantI S_ 32 256#32))))
def ends (x : IVec S24 32) : IVec S24 32 :=
  Host.reduceWindow IntOp.addi ![24] ![1] ![23] ![0] (rounds x) (broadcastInDim S_ ![] bcast_S_S_ (constantI S_ 32 0#32)) reduceWindows_S24_S24_w24s1p23_0 h_S_

/-- The count of rows of each pair. -/
def rowsOf (x : FVec Ideal S24x128 .f32) : IVec S24 32 :=
  fptosi 32 (shapeCast S24 (extractStridedSlice S24x1 ![0, 0] x slices_S24x128_S24x1_0_0) shapeCasts_S24x1_S24)

/-- The pieces' ends from the counts. -/
def E (x : FVec Ideal S24x128 .f32) : IVec S24 32 := ends (addi (rowsOf x) (broadcastInDim S24 ![] bcast_S_S24 (constantI S_ 32 255#32)))

/-- The piece each row lies in. -/
def piece : IVec S22528 32 := shapeCast S22528 (iotaInDim S88x256 32 0) shapeCasts_S88x256_S22528

/-- Which pairs end at or before each row's piece, how many, and the look-up's start. -/
def mask (e : IVec S24 32) : IVec S22528x24 1 := cmpi .sge
  (broadcastInDim S22528x24 ![0, 1] bcast_S22528x1_S22528x24_0_1 (broadcastInDim S22528x1 ![0] bcast_S22528_S22528x1_0 piece))
  (broadcastInDim S22528x24 ![0, 1] bcast_S1x24_S22528x24_0_1 (broadcastInDim S1x24 ![1] bcast_S24_S1x24_1 e))
def count (e : IVec S24 32) : IVec S22528 32 :=
  Host.reduce IntOp.addi (extui 32 (mask e) natLt_1_32) (constantI S_ 32 0#32) reducesTo_S22528x24_S22528_d1 h_S_
def start (n : IVec S22528 32) : IVec S22528x1 32 :=
  broadcastInDim S22528x1 ![0] bcast_S22528_S22528x1_0 (select
    (cmpi .slt (minsi n (broadcastInDim S22528 ![] bcast_S_S22528 (constantI S_ 32 23#32))) (broadcastInDim S22528 ![] bcast_S_S22528 (constantI S_ 32 0#32)))
    (addi (minsi n (broadcastInDim S22528 ![] bcast_S_S22528 (constantI S_ 32 23#32))) (broadcastInDim S22528 ![] bcast_S_S22528 (constantI S_ 32 24#32)))
    (minsi n (broadcastInDim S22528 ![] bcast_S_S22528 (constantI S_ 32 23#32))))
def ids (l : IVec S24 32) (e : IVec S24 32) : IVec S22528 32 :=
  Host.gather gather_S24_S22528x1_S22528_n_0_n_n_0_1_1 l (start (count e))

/-- The gate: one at the expert named, zero at the others. -/
def gate (w : IVec S22528 32) : FVec Ideal S22528x16 .f32 := uitofp .f32 (cmpi .eq
  (broadcastInDim S22528x16 ![0, 1] bcast_S22528x1_S22528x16_0_1 (broadcastInDim S22528x1 ![0] bcast_S22528_S22528x1_0 w))
  (broadcastInDim S22528x16 ![0, 1] bcast_S1x16_S22528x16_0_1 (iotaInDim S1x16 32 1)))

/-- The second layer's weights. -/
def up (w : FVec Ideal S2x16x1024x512 .f32) : FVec Ideal S16x1024x512 .f32 :=
  shapeCast S16x1024x512 (extractStridedSlice S1x16x1024x512 ![1, 0, 0, 0] w slices_S2x16x1024x512_S1x16x1024x512_1_0_0_0) shapeCasts_S1x16x1024x512_S16x1024x512
def down (w : FVec Ideal S2x16x512x1024 .f32) : FVec Ideal S16x512x1024 .f32 :=
  shapeCast S16x512x1024 (extractStridedSlice S1x16x512x1024 ![1, 0, 0, 0] w slices_S2x16x512x1024_S1x16x512x1024_1_0_0_0) shapeCasts_S1x16x512x1024_S16x512x1024

/-- Every expert's hidden values, its gated activation, and the gated sum over the experts. -/
def hidden (x : FVec Ideal S22528x1024 .f32) (w : FVec Ideal S2x16x1024x512 .f32) : FVec Ideal S22528x16x512 .f32 :=
  Host.dotGeneral (F := Ideal) dot_S22528x1024_S16x1024x512_S22528x16x512_1_1_0_02_n_n none x (up w)
def acts (g u : FVec Ideal S22528x16x512 .f32) (G : FVec Ideal S22528x16 .f32) : FVec Ideal S22528x16x512 .f32 :=
  mulf (mulf (mulf g (Host.divf (broadcastInDim S22528x16x512 ![] bcast_S_S22528x16x512 (constant S_ .f32 0x3F800000#32))
      (addf (broadcastInDim S22528x16x512 ![] bcast_S_S22528x16x512 (constant S_ .f32 0x3F800000#32)) (Host.exp (Host.negf g))))) u)
    (broadcastInDim S22528x16x512 ![0, 1, 2] bcast_S22528x16x1_S22528x16x512_0_1_2 (broadcastInDim S22528x16x1 ![0, 1] bcast_S22528x16_S22528x16x1_0_1 G))
def half (a : FVec Ideal S22528x16x512 .f32) (w : FVec Ideal S2x16x512x1024 .f32) : FVec Ideal S22528x1024 .f32 :=
  Host.dotGeneral (F := Ideal) dot_S22528x16x512_S16x512x1024_S22528x1024_12_01_0_2_n_n none a (down w)

/-- The rows of pieces in use, the two halves side by side; zeros elsewhere. -/
def out (e : IVec S24 32) (a b : FVec Ideal S22528x1024 .f32) : FVec Ideal S22528x2048 .f32 :=
  select (broadcastInDim S22528x2048 ![0, 1] bcast_S22528x1_S22528x2048_0_1 (broadcastInDim S22528x1 ![0] bcast_S22528_S22528x1_0
      (cmpi .slt piece (broadcastInDim S22528 ![] bcast_S_S22528 (shapeCast S_ (extractStridedSlice S1 ![23] e slices_S24_S1_23) shapeCasts_S1_S_)))))
    (concatenate S22528x2048 1 [⟨S22528x1024, a⟩, ⟨S22528x1024, b⟩] concatenates_S22528x1024_S22528x1024_S22528x2048_d1)
    (broadcastInDim S22528x2048 ![] bcast_S_S22528x2048 (id (constant S_ .f32 0x00000000#32)))

/-- The whole reference from its five arguments. -/
def whole (x : FVec Ideal S22528x1024 .f32) (n : FVec Ideal S24x128 .f32) (wg wu : FVec Ideal S2x16x1024x512 .f32) (wd : FVec Ideal S2x16x512x1024 .f32) :
    FVec Ideal S22528x2048 .f32 :=
  out (E n) (half (acts (hidden x wg) (hidden x wu) (gate (ids (fun i => lit0 (S24.rowMajor i)) (E n)))) wd)
    (half (acts (hidden x wg) (hidden x wu) (gate (ids (fun i => lit1 (S24.rowMajor i)) (E n)))) wd)

theorem res_eq (m : (ℓ : Loc nD τ sig) → Buf (Elt Ideal) ℓ) (c : Dev nD) : Value.res_main_v68 m c =
    whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v68 whole out half acts hidden gate ids start count mask E ends rounds rowsOf piece up down
  rfl

end Cert.Reference2Ideal.Moe

end
-- ==== Proof.Moe.Ref.lean ====
/-
  The experts' reference read at a row and a column.
-/
module

public import proofs.«01_k».proof.Proof.Moe.Stages

@[expose] public section

set_option maxRecDepth 16384

noncomputable section

namespace Cert.Reference2Ideal.Moe

open Cert.Reference2Ideal Cert.Reference2Ideal.Gen Idealize.ShloMosaic Idealize.ShloMosaic.TcCoe

/-- The row's piece. -/
theorem piece_at (p : Fin 22528) : piece (ix1 p) = BitVec.ofNat 32 (p.val / 256) := by
  unfold piece
  pointwise

theorem start_at (n : IVec S22528 32) (j : Fin 22528) : start n (ix2 j 0) = Scalar.select (IntOp.cmpi .slt (IntOp.minsi (n (ix1 j)) 23#32) 0#32)
      (IntOp.addi (IntOp.minsi (n (ix1 j)) 23#32) 24#32) (IntOp.minsi (n (ix1 j)) 23#32) := by
  unfold start
  pointwise

theorem mask_at (e : IVec S24 32) (j : Fin 22528) (q : Fin 24) :
    mask e (ix2 j q) = IntOp.cmpi .sge (BitVec.ofNat 32 (j.val / 256)) (e (ix1 q)) := by
  have h : mask e (ix2 j q) = IntOp.cmpi .sge (piece (ix1 j)) (e (ix1 q)) := by
    unfold mask
    pointwise
  rw [h, piece_at]

/-- The expert looked up for a row. -/
theorem ids_at (l : IVec S24 32) (e : IVec S24 32) (j : Fin 22528) :
    ids l e (ix1 j) = l (ix1 (Cert.Look.group fun q => IntOp.cmpi .sge (BitVec.ofNat 32 (j.val / 256)) (e (ix1 q)))) := by
  unfold ids
  refine (Cert.Look.pick gather_S24_S22528x1_S22528_n_0_n_n_0_1_1 rfl rfl rfl rfl _ _ (mask e) natLt_1_32 reducesTo_S22528x24_S22528_d1 h_S_ (count e)
    rfl j (start_at _ j)).trans ?_
  exact congrArg (fun g => l (ix1 (Cert.Look.group g))) (funext fun q => mask_at e j q)

theorem gate_at (w : IVec S22528 32) (j : Fin 22528) (a : Fin 16) :
    gate w (ix2 j a) = FloatOps.uitofp (F := Ideal) .f32 (IntOp.cmpi .eq (w (ix1 j)) (BitVec.ofNat 32 a.val)) := by
  unfold gate
  pointwise

/-- The gate is one at the expert named by a word below sixteen and zero at the others. -/
theorem gate_eq (w : IVec S22528 32) (j : Fin 22528) (a : Fin 16) (h : (w (ix1 j)).toNat < 16) :
    gate w (ix2 j a) = if a.val = (w (ix1 j)).toNat then (1 : EReal) else 0 := by
  rw [gate_at]
  generalize hv : w (ix1 j) = v at h ⊢
  have hc : IntOp.cmpi .eq v (BitVec.ofNat 32 a.val) = BitVec.ofBool (decide (a.val = v.toNat)) := by
    show BitVec.ofBool (v == BitVec.ofNat 32 a.val) = _
    congr 1
    rw [Bool.eq_iff_iff, beq_iff_eq, decide_eq_true_iff, ← BitVec.toNat_inj, BitVec.toNat_ofNat, Nat.mod_eq_of_lt (by omega)]
    exact eq_comm
  rw [hc]
  split_ifs with ha
  · rw [decide_eq_true ha]; simp [FloatOps.uitofp]
  · rw [decide_eq_false ha]; simp [FloatOps.uitofp]

theorem hidden_at (x : FVec Ideal S22528x1024 .f32) (w : FVec Ideal S2x16x1024x512 .f32) (j : Fin 22528) (a : Fin 16) (f : Fin 512) :
    hidden x w (ix3 j a f) = Cert.Moe.dotr (fun k => x (ix2 j k)) (fun k => w (ix4 1 a k f)) := by
  unfold Cert.Moe.dotr
  pointwise [hidden, up]

theorem acts_at (g u : FVec Ideal S22528x16x512 .f32) (G : FVec Ideal S22528x16 .f32) (j : Fin 22528) (a : Fin 16) (f : Fin 512) :
    acts g u G (ix3 j a f) = (Cert.Moe.act (g (ix3 j a f)) (u (ix3 j a f)) * G (ix2 j a) : EReal) := by
  unfold Cert.Moe.act
  rw [← EReal.coe_one, ← Cert.Moe.one_bits]
  pointwise [acts]

theorem half_at (A : FVec Ideal S22528x16x512 .f32) (w : FVec Ideal S2x16x512x1024 .f32) (j : Fin 22528) (d : Fin 1024) :
    half A w (ix2 j d) = ∑ a : Fin 16, ∑ f : Fin 512, A (ix3 j a f) * w (ix4 1 a f d) := by
  pointwise [half, down]

theorem out_at (e : IVec S24 32) (a b : FVec Ideal S22528x1024 .f32) (j : Fin 22528) (y : Fin 2048) :
    out e a b (ix2 j y) = Scalar.select (IntOp.cmpi .slt (BitVec.ofNat 32 (j.val / 256)) (e (ix1 23)))
      (if h : y.val < 1024 then a (ix2 j ⟨y.val, h⟩) else b (ix2 j ⟨y.val - 1024, by omega⟩)) (0 : EReal) := by
  have hz : id (constant (F := Ideal) S_ .f32 0#32) ix0 = (0 : EReal) := by
    show Ideal.ofBits .f32 0#32 = 0
    simp [Ideal.ofBits, Ideal.ieee]
  rw [← piece_at]
  generalize hp : piece = p
  unfold out
  rw [hp]
  pointwise
  rw [hz]

/-- One half of the result at a row and a column: the expert its word names. -/
theorem half_eq (x : FVec Ideal S22528x1024 .f32) (wg wu : FVec Ideal S2x16x1024x512 .f32) (wd : FVec Ideal S2x16x512x1024 .f32)
    (w : IVec S22528 32) (j : Fin 22528) (d : Fin 1024) (v : BitVec 32) (hv : w (ix1 j) = v) (h : v.toNat < 16) :
    half (acts (hidden x wg) (hidden x wu) (gate w)) wd (ix2 j d) =
      Cert.Moe.expert (fun k => x (ix2 j k)) (fun f k => wg (ix4 1 ⟨v.toNat, h⟩ k f)) (fun f k => wu (ix4 1 ⟨v.toNat, h⟩ k f)) (fun f => wd (ix4 1 ⟨v.toNat, h⟩ f d)) := by
  subst hv
  rw [half_at]
  simp only [acts_at, hidden_at]
  refine (Cert.Moe.gated ⟨(w (ix1 j)).toNat, h⟩ _ (fun a f => wd (ix4 1 a f d)) (fun a => gate w (ix2 j a)) ?_ ?_).trans rfl
  · show gate w (ix2 j _) = 1
    rw [gate_eq w j _ h, if_pos rfl]
  · intro a ha
    show gate w (ix2 j a) = 0
    rw [gate_eq w j a h, if_neg fun e => ha (Fin.ext e)]

end Cert.Reference2Ideal.Moe

end
-- ==== Proof.Moe.Value.lean ====
/-
  The experts' call's result array is the reference's, at any memory.
-/
module

public import proofs.«01_k».proof.Proof.Moe.Blocks
public import proofs.«01_k».proof.Proof.Moe.Pay
public import proofs.«01_k».proof.Proof.Moe.Ref
public import Idealize.ShloMosaic.Lib.Pipeline.Covers

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable (m : (ℓ : Loc nD τ sig) → Buf (Elt Ideal) ℓ) (c : Dev nD)

/-- Raising a count by 256 and then lowering it by one is raising it by 255: both sides divide the same words. -/
theorem ends_eq : E m c = Cert.Reference2Ideal.Moe.E (m ((c : Thread nD τ).loc main_arg1)) := by
  have h : subi (addi (rowsOf (F := Ideal) (m ((c : Thread nD τ).loc main_arg1))) (broadcastInDim S24 ![] bcast_S_S24 (constantI S_ 32 256#32)))
      (broadcastInDim S24 ![] bcast_S_S24 (constantI S_ 32 1#32)) =
      addi (rowsOf (F := Ideal) (m ((c : Thread nD τ).loc main_arg1))) (broadcastInDim S24 ![] bcast_S_S24 (constantI S_ 32 255#32)) := by
    funext q
    show rowsOf (F := Ideal) (m ((c : Thread nD τ).loc main_arg1)) q + 256#32 - 1#32 = rowsOf (F := Ideal) (m ((c : Thread nD τ).loc main_arg1)) q + 255#32
    generalize rowsOf (F := Ideal) (m ((c : Thread nD τ).loc main_arg1)) q = w
    apply BitVec.eq_of_toNat_eq
    simp only [BitVec.toNat_sub, BitVec.toNat_add, BitVec.toNat_ofNat]
    omega
  unfold E
  rw [h]
  rfl

/-- A tile is in use where the kernel's test says so. -/
theorem in_use (i : grid0.Coords) (v : BitVec 32) : k0_cond1 i v = 1#1 ↔ IntOp.cmpi .slt (BitVec.ofNat 32 (i 0).val) v = 1#1 := by
  unfold k0_cond1
  generalize BitVec.ofNat 32 (i 0).val = a
  show IntOp.cmpi .ne (BitVec.setWidth 32 (IntOp.cmpi .slt a v)) 0#32 = 1#1 ↔ _
  generalize IntOp.cmpi .slt a v = b
  revert b
  decide

/-- The array over any tables that hold the look-ups' words. -/
theorem tile_eq (pf : pre0.Contents (Elt Ideal)) (hO : ok0 (F := Ideal) pf) (e : IVec S24 32)
    (hE : Cert.Reference2Ideal.Moe.E (m ((c : Thread nD τ).loc main_arg1)) = e)
    (e0 : ∀ j : Fin 88, pf 0 (ix1 j) = lit0 (S24.rowMajor (ix1 (Look.group (past e (BitVec.ofNat 32 j.val))))))
    (e1 : ∀ j : Fin 88, pf 1 (ix1 j) = lit1 (S24.rowMajor (ix1 (Look.group (past e (BitVec.ofNat 32 j.val))))))
    (e2 : pf 2 (ix1 0) = e (ix1 23)) :
    (dats m pf hO 0 c).arrAt 7 (cfgM pf hO).N = Cert.Reference2Ideal.Moe.whole (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m pf hO 0 c).arrAt_eq_of_covers 7 _ ?_ fun t hf y => ?_
  · refine Pipeline.Window.covers_of_indexMap_surj _ rfl (fun a => (by decide : ∀ a : Fin 2, 0 < (![256, 2048] : Fin 2 → Nat) a) a) fun β => ?_
    have l0 : (β (0 : Fin 2)).val < 88 := lt_of_lt_of_eq (β (0 : Fin 2)).isLt (show (22528 + 256 - 1) / 256 = 88 by decide)
    have l1 : (β (1 : Fin 2)).val < 1 := lt_of_lt_of_eq (β (1 : Fin 2)).isLt (show (2048 + 2048 - 1) / 2048 = 1 by decide)
    let b0 : Fin 88 := ⟨(β (0 : Fin 2)).val, l0⟩
    let i : grid0.Coords := fun a => match a with | ⟨0, _⟩ => b0
    refine ⟨i, fun a => ?_⟩
    match a with
    | ⟨0, _⟩ => exact congrFun (tr7 i) 0
    | ⟨1, _⟩ =>
      have h : (β (1 : Fin 2)).val = 0 := by omega
      exact (congrFun (tr7 i) 1).trans h.symm
  blk_simp
  rw [after_7]
  obtain ⟨r, d, rfl⟩ : ∃ (r : Fin 256) (d : Fin 2048), (show S256x2048.Idx from y) = ix2 r d := ⟨(show S256x2048.Idx from y) 0, (show S256x2048.Idx from y) 1, by
    funext a
    match a with
    | ⟨0, _⟩ => rfl
    | ⟨1, _⟩ => rfl⟩
  have ht := (tj pf hO t).isLt
  have hr := r.isLt
  rw [emb7]
  generalize hX0 : m ((c : Thread nD τ).loc main_arg0) = X0
  generalize hX2 : m ((c : Thread nD τ).loc main_arg2) = X2
  generalize hX3 : m ((c : Thread nD τ).loc main_arg3) = X3
  generalize hX4 : m ((c : Thread nD τ).loc main_arg4) = X4
  unfold Cert.Reference2Ideal.Moe.whole
  rw [hE]
  refine Eq.trans ?_ (Cert.Reference2Ideal.Moe.out_at _ _ _ _ _).symm
  have hq : (256 * (tj pf hO t).val + r.val) / 256 = (tj pf hO t).val := by omega
  have h0 := e0 (tj pf hO t)
  have h1 := e1 (tj pf hO t)
  set w0 := lit0 (S24.rowMajor (ix1 (Look.group (past e (BitVec.ofNat 32 (tj pf hO t).val))))) with hw0
  set w1 := lit1 (S24.rowMajor (ix1 (Look.group (past e (BitVec.ofNat 32 (tj pf hO t).val))))) with hw1
  have l0 : w0.toNat < 16 := lit0_lt _
  have l1 : w1.toNat < 16 := lit1_lt _
  simp only [hq]
  unfold outB tileOut
  rw [show used pf = e (ix1 23) from e2]
  by_cases hu : IntOp.cmpi .slt (BitVec.ofNat 32 (tj pf hO t).val) (e (ix1 23)) = 1#1
  · rw [if_pos ((in_use _ _).2 hu)]
    rw [show Scalar.select (IntOp.cmpi .slt (BitVec.ofNat 32 (tj pf hO t).val) (e (ix1 23))) _ _ = _ from if_pos hu]
    by_cases hd : d.val < 1024
    · refine (dif_pos hd).trans (Eq.trans ?_ (dif_pos hd).symm)
      refine (lo_apply _ _ _ _ r ⟨d.val, hd⟩).trans ?_
      refine Eq.trans ?_ (Cert.Reference2Ideal.Moe.half_eq X0 X2 X3 X4 _ _ ⟨d.val, hd⟩ w0 ?_ l0).symm
      · simp only [x_blk, wg_lo m pf hO c t w0 h0 l0, wu_lo m pf hO c t w0 h0 l0, wd_lo m pf hO c t w0 h0 l0, hX0, hX2, hX3, hX4]
      · rw [Cert.Reference2Ideal.Moe.ids_at]
        simp only [hq]
        rfl
    · refine (dif_neg hd).trans (Eq.trans ?_ (dif_neg hd).symm)
      have hd' : d.val - 1024 < 1024 := by have := d.isLt; omega
      refine (hi_apply _ _ _ _ r ⟨d.val - 1024, hd'⟩).trans ?_
      refine Eq.trans ?_ (Cert.Reference2Ideal.Moe.half_eq X0 X2 X3 X4 _ _ ⟨d.val - 1024, hd'⟩ w1 ?_ l1).symm
      · simp only [x_blk, wg_hi m pf hO c t w1 h1 l1, wu_hi m pf hO c t w1 h1 l1, wd_hi m pf hO c t w1 h1 l1, hX0, hX2, hX3, hX4]
      · rw [Cert.Reference2Ideal.Moe.ids_at]
        simp only [hq]
        rfl
  · rw [if_neg fun h => hu ((in_use _ _).1 h)]
    rw [show Scalar.select (IntOp.cmpi .slt (BitVec.ofNat 32 (tj pf hO t).val) (e (ix1 23))) _ _ = _ from if_neg hu]
    rw [zero_apply]
    show Ideal.ofBits .f32 0#32 = (0 : EReal)
    simp [Ideal.ofBits, Ideal.ieee]

end Cert.Kernel2Ideal.Moe

end
-- ==== Proof.Moe.Same.lean ====
/-
  The experts' printed program and its idealization have one text: over bits their bodies, their pipelines and their
  main programs are equal.
-/
module

public import proofs.«01_k».proof.Defs
public import proofs.«01_k».proof.Proof.Gen.Kernel2
public import proofs.«01_k».proof.Proof.Gen.Kernel2Ideal

@[expose] public section

noncomputable section

namespace Cert.Moe

open Idealize.ShloMosaic Idealize.SL.Sem

attribute [local instance] Cert.Kernel2.Gen.facts Cert.Kernel2Ideal.Gen.facts

set_option maxHeartbeats 4000000 in
/-- One body table: label by label, the same function at the same buffers. -/
theorem bodies_same : Cert.Kernel2.defs₀ (F := Bits) = Cert.Kernel2Ideal.defs₀ (F := Bits) := by
  refine congrArg Defs.onTc (funext fun k => ?_)
  obtain ⟨k, hk⟩ := k
  obtain rfl : k = 0 := Nat.lt_one_iff.mp hk
  funext ts
  obtain ⟨t, s⟩ := ts
  rfl

set_option maxHeartbeats 4000000 in
/-- So one table of bodies and pipelines. -/
theorem defs_same : Cert.Kernel2.defs (F := Bits) = Cert.Kernel2Ideal.defs (F := Bits) := by
  have h := bodies_same
  unfold Cert.Kernel2.defs Cert.Kernel2Ideal.defs
  rw [h]
  rfl

set_option maxHeartbeats 8000000 in
/-- And one main program. -/
theorem main_same : Cert.Kernel2.main (F := Bits) = Cert.Kernel2Ideal.main (F := Bits) := rfl

end Cert.Moe

end
-- ==== Proof.Moe.Claims.lean ====
/-
  The experts' call: the three programs' runs, and the equality of the kernel's result and the reference's.
-/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Moe.Value
public import proofs.«01_k».proof.Proof.Moe.Same
public import Idealize.ShloMosaic.Adequacy
public import Idealize.ShloMosaic.Init

@[expose] public section

noncomputable section

namespace Cert.Moe

open Idealize.ShloMosaic Idealize.SL.Sem

set_option maxHeartbeats 1000000 in
/-- The printed kernel runs and leaves its arguments and every counter as they were. -/
theorem frame_kernel : Cert.quiescent_Kernel2 (hKernel2 := Cert.Kernel2.Gen.facts) := by
  intro m g _
  obtain ⟨pf, hO, hV, -⟩ := Cert.Kernel2Ideal.Moe.tables (F := Bits) m
  rw [defs_same, main_same]
  exact (θ_run Cert.Kernel2Ideal.defs _ _).mono (fun _ h => ⟨fun c => (h.1 c).2, h.2⟩)
    (Cert.Kernel2Ideal.Moe.run_main (F := Bits) m pf hO hV g)

/-- So does the idealized kernel. -/
theorem frame_kernel_ideal : Cert.quiescent_Kernel2Ideal (hKernel2Ideal := Cert.Kernel2Ideal.Gen.facts) := by
  intro m g _
  obtain ⟨pf, hO, hV, -⟩ := Cert.Kernel2Ideal.Moe.tables (F := Ideal) m
  exact (θ_run Cert.Kernel2Ideal.defs _ _).mono (fun _ h => ⟨fun c => (h.1 c).2, h.2⟩)
    (Cert.Kernel2Ideal.Moe.run_main (F := Ideal) m pf hO hV g)

/-- So does the reference. -/
theorem frame_reference : Cert.quiescent_Reference2Ideal (hReference2Ideal := Cert.Reference2Ideal.Gen.facts) := by
  intro m g _
  exact (θ_run _ _ _).mono (fun r h => ⟨fun c => (h c).2, sem_eq_zero_of_no_sems (by decide) r.2⟩)
    (Cert.Reference2Ideal.Value.run m g)

/-- The experts' call computes the reference's result over the extended reals, at any arguments. -/
theorem algebraic : Cert.algebraic_Kernel2Ideal_Reference2Ideal (hKernel2Ideal := Cert.Kernel2Ideal.Gen.facts)
    (hReference2Ideal := Cert.Reference2Ideal.Gen.facts) := by
  intro m g m' g' _ hagree
  obtain ⟨pf, hO, hV, h0, h1, h2⟩ := Cert.Kernel2Ideal.Moe.tables (F := Ideal) m
  refine ⟨fun c => (Cert.Kernel2Ideal.Moe.dats m pf hO 0 c).arrAt 7 (Cert.Kernel2Ideal.Moe.cfgM pf hO).N,
    (θ_run Cert.Kernel2Ideal.defs _ _).mono (fun _ h c => h.1 c) (Cert.Kernel2Ideal.Moe.run_main (F := Ideal) m pf hO hV g), ?_⟩
  refine (θ_run _ _ _).mono (fun r h c => ?_) (Cert.Reference2Ideal.Value.run m' g')
  refine ⟨(h c).1.trans ?_, (h c).2⟩
  obtain ⟨e0, e1, e2, e3, e4⟩ := hagree c
  rw [Cert.Reference2Ideal.Moe.res_eq, e0, e1, e2, e3, e4]
  have hE := Cert.Kernel2Ideal.Moe.ends_eq m c
  exact (Cert.Kernel2Ideal.Moe.tile_eq m c pf hO _ hE.symm (h0 c) (h1 c) (h2 c)).symm

end Cert.Moe

end
-- ==== Proof.Proj.Math.lean ====
/-
  The projection before the recurrence, of one token over the extended reals: the root-mean-square norm with its weights and
  modulation, the product with one column of the weights, and the activation of the first half.
-/
module

public import Idealize.ShloMosaic.PureOps.Ideal.Laws
public import Idealize.ShloMosaic.Lib.Pointwise

@[expose] public section

noncomputable section

namespace Cert.Proj

open Idealize.ShloMosaic

/-- One over the root of the mean square of a token's numbers. -/
def inv (x : Fin 1024 → EReal) : EReal :=
  Ideal.rsqrt (Ideal.div (∑ k, x k * x k) (Ideal.ofBits .f32 1149239296#32) + Ideal.ofBits .f32 897988541#32)

/-- The token normed, weighted and modulated. -/
def hid (x g sh sc : Fin 1024 → EReal) (k : Fin 1024) : EReal :=
  x k * inv x * g k * (Ideal.ofBits .f32 1065353216#32 + sc k) + sh k

/-- Its product with a column of the weights. -/
def proj (x g sh sc w : Fin 1024 → EReal) : EReal := ∑ k, hid x g sh sc k * w k

/-- The activation: the Gaussian error's linear unit by a hyperbolic tangent. -/
def gelu (z : EReal) : EReal :=
  z * (Ideal.ofBits .f32 1056964608#32 * (Ideal.ofBits .f32 1065353216#32 +
    Ideal.tanh (Ideal.ofBits .f32 1061962282#32 * (z + Ideal.ofBits .f32 1027024659#32 * (z * z * z)))))

theorem half_first (a z t : EReal) : a * z * t = z * (a * t) := by rw [mul_comm a z, mul_assoc]

/-- The row of the modulation vectors that a token of a batch entry takes: latent tokens the first, context tokens the second. -/
def row (b : Fin 2) (t : Fin 8448) : Fin 4 := ⟨2 * b.val + t.val / 8192, by omega⟩

end Cert.Proj

end
-- ==== Proof.Proj.Row.lean ====
/-
  The projection's block at a grid point, at a row and a column.
-/
module

public import proofs.«01_k».proof.Proof.Gen.Kernel3Ideal.Value
public import proofs.«01_k».proof.Proof.Proj.Math
public import Idealize.ShloMosaic.Lib.Pointwise

@[expose] public section

set_option maxRecDepth 16384
set_option maxHeartbeats 4000000

noncomputable section

namespace Cert.Kernel3Ideal.Proj

open Cert.Kernel3Ideal Cert.Kernel3Ideal.Gen Idealize.ShloMosaic Idealize.ShloMosaic.TcCoe Idealize.SL.Sem

variable (x : Vec Ideal S1x256x1024 .f32) (g : Vec Ideal S1x1024 .f32) (sh sc : Vec Ideal S1x1x1024 .f32) (w : Vec Ideal S1024x2048 .bf16)

/-- The product before it is split in halves. -/
theorem z_apply (r : Fin 256) (n : Fin 2048) : k0_pay3 (F := Ideal) x g sh sc w (ix2 r n) =
    Cert.Proj.proj (fun k => x (ix3 0 r k)) (fun k => g (ix2 0 k)) (fun k => sh (ix3 0 0 k)) (fun k => sc (ix3 0 0 k)) (fun k => w (ix2 k n)) := by
  unfold Cert.Proj.proj Cert.Proj.hid Cert.Proj.inv
  pointwise [k0_pay3]

/-- The first half through the activation, as the block it is stored to holds it. -/
theorem y_apply (r : Fin 256) (n : Fin 1024) : Value.E4 (F := Ideal) x g sh sc w (ix3 0 r n) =
    Cert.Proj.gelu (Cert.Proj.proj (fun k => x (ix3 0 r k)) (fun k => g (ix2 0 k)) (fun k => sh (ix3 0 0 k)) (fun k => sc (ix3 0 0 k))
      (fun k => w (ix2 k ⟨n.val, by omega⟩))) := by
  have e : Value.ix4_0 (ix3 0 r n) = ix2 r ⟨n.val, by omega⟩ := by funext a; match a with | ⟨0, _⟩ => rfl | ⟨1, _⟩ => rfl
  rw [← z_apply]
  unfold Cert.Proj.gelu
  show FloatOps.truncf .bf16 bitsLt_bf16_f32 (FloatOps.mulf (FloatOps.mulf _ (k0_pay3 (F := Ideal) x g sh sc w (Value.ix4_0 (ix3 0 r n)))) _) = _
  rw [show Value.ix4_1 = Value.ix4_0 from rfl, show Value.ix4_2 = Value.ix4_0 from rfl, show Value.ix4_3 = Value.ix4_0 from rfl,
    show Value.ix4_4 = Value.ix4_0 from rfl, e]
  exact Cert.Proj.half_first _ _ _

/-- The second half as it is. -/
theorem u_apply (r : Fin 256) (n : Fin 1024) : Value.E5 (F := Ideal) x g sh sc w (ix3 0 r n) =
    Cert.Proj.proj (fun k => x (ix3 0 r k)) (fun k => g (ix2 0 k)) (fun k => sh (ix3 0 0 k)) (fun k => sc (ix3 0 0 k))
      (fun k => w (ix2 k ⟨1024 + n.val, by omega⟩)) := by
  have e : Value.ix5_0 (ix3 0 r n) = ix2 r ⟨1024 + n.val, by omega⟩ := by
    funext a; match a with | ⟨0, _⟩ => rfl | ⟨1, _⟩ => exact Fin.ext (Nat.add_comm _ _)
  rw [← z_apply, ← e]

end Cert.Kernel3Ideal.Proj

end
-- ==== Proof.Proj.Blocks.lean ====
/-
  The projection's input blocks as elements of the arguments, and where its output blocks lie in the results.
-/
module

public import proofs.«01_k».proof.Proof.Gen.Kernel3Ideal.Value
public import proofs.«01_k».proof.Proof.Proj.Math
public import Idealize.ShloMosaic.Lib.Pointwise
public import Idealize.ShloMosaic.Lib.Claim
public import Idealize.ShloMosaic.Lib.StableHlo.ReadAt
public import Idealize.ShloMosaic.Lib.Pipeline.ValueKit.Geometry

@[expose] public section

set_option maxRecDepth 16384
set_option maxHeartbeats 4000000

noncomputable section

namespace Cert.Kernel3Ideal.Proj

open Cert.Kernel3Ideal Cert.Kernel3Ideal.Gen Idealize.ShloMosaic Idealize.ShloMosaic.TcCoe Idealize.SL.Sem

/-- The batch entry and the tile of a grid point. -/
def tb (t : Fin cfg0.N) : Fin 2 := ⟨(grid0.coords t 0).val, (grid0.coords t 0).isLt⟩
def ti (t : Fin cfg0.N) : Fin 33 := ⟨(grid0.coords t 1).val, (grid0.coords t 1).isLt⟩

/-- The token of a row of a tile. -/
def tok (t : Fin cfg0.N) (r : Fin 256) : Fin 8448 := ⟨256 * (ti t).val + r.val, by have := (ti t).isLt; omega⟩

theorem index0 : ∀ t : Fin cfg0.N, win0_0.index t = ![(tb t).val, (ti t).val, 0] :=
  (by decide +kernel : ∀ t : Fin grid0.N, win0_0.index t = ![(grid0.coords t 0).val, (grid0.coords t 1).val, 0])
theorem index1 : ∀ t : Fin cfg0.N, win0_1.index t = ![2 * (tb t).val + (ti t).val / 32, 0, 0] :=
  (by decide +kernel : ∀ t : Fin grid0.N, win0_1.index t = ![2 * (grid0.coords t 0).val + (grid0.coords t 1).val / 32, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![(tb t).val, (ti t).val, 0] :=
  (by decide +kernel : ∀ t : Fin grid0.N, win0_4.index t = ![(grid0.coords t 0).val, (grid0.coords t 1).val, 0])
theorem index5 : ∀ t : Fin cfg0.N, win0_5.index t = ![(tb t).val, (ti t).val, 0] :=
  (by decide +kernel : ∀ t : Fin grid0.N, win0_5.index t = ![(grid0.coords t 0).val, (grid0.coords t 1).val, 0])

/-- All tokens of a tile take one row of the modulation vectors. -/
theorem row_tok (t : Fin cfg0.N) (r : Fin 256) : (Cert.Proj.row (tb t) (tok t r)).val = 2 * (tb t).val + (ti t).val / 32 := by
  show 2 * (tb t).val + (256 * (ti t).val + r.val) / 8192 = _
  omega

variable (m : (ℓ : Loc nD τ sig) → Buf (Elt Ideal) ℓ) (c : Dev nD)

theorem mod_entry (a : Fin 4) (j : Fin 6) (k : Fin 1024) :
    V m c main_v0 (ix3 a ⟨j.val, by omega⟩ k) = m ((c : Thread nD τ).loc main_arg1) (ix3 a j k) := by
  unfold V
  after_reads_at

theorem g_entry (k : Fin 1024) : V m c main_v1 (ix2 0 k) = m ((c : Thread nD τ).loc main_arg2) (ix1 k) := by
  unfold V
  after_reads_at

theorem w_entry (k : Fin 1024) (n : Fin 2048) : V m c main_v2 (ix2 k n) = m ((c : Thread nD τ).loc main_arg3) (ix2 k n) := by
  unfold V
  after_reads_at

theorem x_blk (t : Fin cfg0.N) (r : Fin 256) (k : Fin 1024) : iblk m c 0 t (ix3 0 r k) =
    m ((c : Thread nD τ).loc main_arg0) (ix3 (tb t) (tok t r) k) := by
  blk_simp [iblk]
  rw [← V_main_arg0 m c]
  refine congrArg (V m c main_arg0) ?_
  funext a; apply Fin.ext; fin_cases a <;> blk_simp [index0] <;> first | rfl | exact congrArg (· + _) (Nat.mul_comm _ _)

theorem mod_blk (t : Fin cfg0.N) (r : Fin 256) (j : Fin 6) (k : Fin 1024) : iblk m c 1 t (ix3 0 ⟨j.val, by omega⟩ k) =
    m ((c : Thread nD τ).loc main_arg1) (ix3 (Cert.Proj.row (tb t) (tok t r)) j k) := by
  have hr := row_tok t r
  blk_simp [iblk]
  refine Eq.trans (congrArg (V m c main_v0) ?_) (mod_entry m c _ j k)
  funext a; apply Fin.ext; fin_cases a <;> blk_simp [index1] <;> first | rfl | exact hr.symm | omega

theorem g_blk (t : Fin cfg0.N) (k : Fin 1024) : iblk m c 2 t (ix2 0 k) = m ((c : Thread nD τ).loc main_arg2) (ix1 k) := by
  blk_simp [iblk]
  refine Eq.trans (congrArg (V m c main_v1) ?_) (g_entry m c k)
  funext a; apply Fin.ext; fin_cases a <;> blk_simp [index2] <;> rfl

theorem w_blk (t : Fin cfg0.N) (k : Fin 1024) (n : Fin 2048) : iblk m c 3 t (ix2 k n) = m ((c : Thread nD τ).loc main_arg3) (ix2 k n) := by
  blk_simp [iblk]
  refine Eq.trans (congrArg (V m c main_v2) ?_) (w_entry m c k n)
  funext a; apply Fin.ext; fin_cases a <;> blk_simp [index3] <;> rfl

theorem emb4 (t : Fin cfg0.N) (r : Fin 256) (n : Fin 1024) : ((cfg0.win 4).blk t).view.emb (ix3 0 r n) = ix3 (tb t) (tok t r) n := by
  funext a; apply Fin.ext; fin_cases a <;> blk_simp [index4] <;> first | rfl | exact congrArg (· + _) (Nat.mul_comm _ _)

theorem emb5 (t : Fin cfg0.N) (r : Fin 256) (n : Fin 1024) : ((cfg0.win 5).blk t).view.emb (ix3 0 r n) = ix3 (tb t) (tok t r) n := by
  funext a; apply Fin.ext; fin_cases a <;> blk_simp [index5] <;> first | rfl | exact congrArg (· + _) (Nat.mul_comm _ _)

end Cert.Kernel3Ideal.Proj

end
-- ==== Proof.Proj.Ref.lean ====
/-
  The reference of the projection at a batch entry, a token and a column.
-/
module

public import proofs.«01_k».proof.Proof.Gen.Reference3Ideal.Read
public import proofs.«01_k».proof.Proof.Proj.Math
public import Idealize.ShloMosaic.Lib.Pointwise

@[expose] public section

set_option maxRecDepth 16384
set_option maxHeartbeats 4000000

noncomputable section

namespace Cert.Reference3Ideal.Proj

open Cert.Reference3Ideal Cert.Reference3Ideal.Read Idealize.ShloMosaic Idealize.ShloMosaic.TcCoe Idealize.SL.Sem

variable (x0 : (⟨S2x8448x1024, .f32⟩ : BufTy).Contents (Elt Ideal)) (x1 : (⟨S4x6x1024, .f32⟩ : BufTy).Contents (Elt Ideal))
  (x2 : (⟨S1024, .f32⟩ : BufTy).Contents (Elt Ideal)) (x3 : (⟨S1024x2048, .f32⟩ : BufTy).Contents (Elt Ideal))

/-- The test of a token for being latent. -/
theorem test (t : Nat) (h : t < 8448) : (IntOp.cmpi .slt (BitVec.ofNat 32 t) 8192#32) = if t < 8192 then 1#1 else 0#1 := by
  rw [IntOp.cmpi]
  have : (BitVec.ofNat 32 t).slt 8192#32 = decide (t < 8192) := by
    rw [BitVec.slt_eq_decide, BitVec.toInt_eq_toNat_of_lt (by simp; omega)]
    simp; omega
  show BitVec.ofBool ((BitVec.ofNat 32 t).slt 8192#32) = _
  rw [this]
  by_cases ht : t < 8192
  · rw [if_pos ht, decide_eq_true ht]; rfl
  · rw [if_neg ht, decide_eq_false ht]; rfl

theorem shift_at (b : Fin 2) (t : Fin 8448) (k : Fin 1024) : val_main_v5 (F := Ideal) x1 (ix3 b t k) = x1 (ix3 (Cert.Proj.row b t) 0 k) := by
  simp only [val_main_v5_apply, val_main_call0_v0_apply, val_main_call0_v1_apply, val_main_call0_v2_apply, val_main_v2_apply, val_main_v1_apply,
    val_main_v0_apply, val_main_c_apply]
  rw [show (ix3 b t k : S2x8448x1024.Idx) 1 = t from rfl, test t.val t.isLt]
  by_cases ht : t.val < 8192
  · rw [if_pos ht]
    show val_main_v3 (F := Ideal) x1 _ = _
    refine congrArg x1 (funext fun a => Fin.ext ?_)
    match a with
    | ⟨0, _⟩ => show 0 + 2 * b.val = 2 * b.val + t.val / 8192; omega
    | ⟨1, _⟩ => rfl
    | ⟨2, _⟩ => show 0 + 1 * k.val = k.val; omega
  · rw [if_neg ht]
    show val_main_v4 (F := Ideal) x1 _ = _
    refine congrArg x1 (funext fun a => Fin.ext ?_)
    have hlt := t.isLt
    match a with
    | ⟨0, _⟩ => show 1 + 2 * b.val = 2 * b.val + t.val / 8192; omega
    | ⟨1, _⟩ => rfl
    | ⟨2, _⟩ => show 0 + 1 * k.val = k.val; omega

theorem scale_at (b : Fin 2) (t : Fin 8448) (k : Fin 1024) : val_main_v8 (F := Ideal) x1 (ix3 b t k) = x1 (ix3 (Cert.Proj.row b t) 1 k) := by
  simp only [val_main_v8_apply, val_main_call1_v0_apply, val_main_call1_v1_apply, val_main_call1_v2_apply, val_main_v2_apply, val_main_v1_apply,
    val_main_v0_apply, val_main_c_apply]
  rw [show (ix3 b t k : S2x8448x1024.Idx) 1 = t from rfl, test t.val t.isLt]
  by_cases ht : t.val < 8192
  · rw [if_pos ht]
    show val_main_v6 (F := Ideal) x1 _ = _
    refine congrArg x1 (funext fun a => Fin.ext ?_)
    match a with
    | ⟨0, _⟩ => show 0 + 2 * b.val = 2 * b.val + t.val / 8192; omega
    | ⟨1, _⟩ => rfl
    | ⟨2, _⟩ => show 0 + 1 * k.val = k.val; omega
  · rw [if_neg ht]
    show val_main_v7 (F := Ideal) x1 _ = _
    refine congrArg x1 (funext fun a => Fin.ext ?_)
    have hlt := t.isLt
    match a with
    | ⟨0, _⟩ => show 1 + 2 * b.val = 2 * b.val + t.val / 8192; omega
    | ⟨1, _⟩ => rfl
    | ⟨2, _⟩ => show 0 + 1 * k.val = k.val; omega

theorem hid_at (b : Fin 2) (t : Fin 8448) (k : Fin 1024) : val_main_v25 (F := Ideal) x0 x1 x2 (ix3 b t k) =
    Cert.Proj.hid (fun k => x0 (ix3 b t k)) (fun k => x2 (ix1 k)) (fun k => x1 (ix3 (Cert.Proj.row b t) 0 k))
      (fun k => x1 (ix3 (Cert.Proj.row b t) 1 k)) k := by
  simp only [val_main_v25_apply, val_main_v24_apply, val_main_v23_apply, val_main_v22_apply, val_main_cst_2_apply, val_main_v21_apply,
    val_main_v20_apply, val_main_v19_apply, val_main_v18_apply, val_main_v17_apply, val_main_v16_apply, val_main_v15_apply,
    val_main_v14_apply, val_main_cst_1_apply, val_main_v13_apply, val_main_v12_apply, val_main_cst_0_apply, val_main_v11_apply,
    val_main_v10_apply, val_main_cst_apply, val_main_v9_apply, shift_at, scale_at]
  unfold Cert.Proj.hid Cert.Proj.inv
  have hz : (FloatOps.ofBits FTy.f32 0#32 : Ideal .f32) = (0 : EReal) := by show Ideal.ofBits .f32 0#32 = (0 : EReal); simp
  have e (j : Fin 1024) : idx_main_v10 (idx_main_v11 (idx_main_v17 (ix3 b t k))) j = ix3 b t j := by
    funext a; match a with | ⟨0, _⟩ => rfl | ⟨1, _⟩ => rfl | ⟨2, _⟩ => rfl
  have e2 : idx_main_v19 (idx_main_v20 (ix3 b t k)) = ix1 k := by funext a; match a with | ⟨0, _⟩ => rfl
  simp only [e, e2, hz, zero_add]
  rfl

theorem z_at (b : Fin 2) (t : Fin 8448) (n : Fin 2048) : val_main_v26 (F := Ideal) x0 x1 x2 x3 (ix3 b t n) =
    Cert.Proj.proj (fun k => x0 (ix3 b t k)) (fun k => x2 (ix1 k)) (fun k => x1 (ix3 (Cert.Proj.row b t) 0 k))
      (fun k => x1 (ix3 (Cert.Proj.row b t) 1 k)) (fun k => x3 (ix2 k n)) := by
  rw [val_main_v26_apply]
  unfold Cert.Proj.proj
  refine Finset.sum_congr rfl fun k _ => ?_
  rw [show lidx_main_v26 (ix3 b t n) k = ix3 b t k from by funext a; match a with | ⟨0, _⟩ => rfl | ⟨1, _⟩ => rfl | ⟨2, _⟩ => rfl,
    show ridx_main_v26 (ix3 b t n) k = ix2 k n from by funext a; match a with | ⟨0, _⟩ => rfl | ⟨1, _⟩ => rfl, hid_at]

theorem y_at (b : Fin 2) (t : Fin 8448) (n : Fin 1024) : val_main_v41 (F := Ideal) x0 x1 x2 x3 (ix3 b t n) =
    Cert.Proj.gelu (Cert.Proj.proj (fun k => x0 (ix3 b t k)) (fun k => x2 (ix1 k)) (fun k => x1 (ix3 (Cert.Proj.row b t) 0 k))
      (fun k => x1 (ix3 (Cert.Proj.row b t) 1 k)) (fun k => x3 (ix2 k ⟨n.val, by omega⟩))) := by
  simp only [val_main_v41_apply, val_main_v40_apply, val_main_v39_apply, val_main_v38_apply, val_main_cst_6_apply, val_main_v37_apply,
    val_main_v36_apply, val_main_cst_5_apply, val_main_v35_apply, val_main_v34_apply, val_main_v33_apply, val_main_cst_4_apply,
    val_main_v32_apply, val_main_v31_apply, val_main_v30_apply, val_main_cst_3_apply, val_main_v29_apply, val_main_v28_apply,
    val_main_v27_apply]
  rw [show idx_main_v27 (ix3 b t n) = ix3 b t ⟨n.val, by omega⟩ from by funext a; match a with | ⟨0, _⟩ => rfl | ⟨1, _⟩ => rfl | ⟨2, _⟩ => rfl, z_at]
  rfl

theorem u_at (b : Fin 2) (t : Fin 8448) (n : Fin 1024) : val_main_v42 (F := Ideal) x0 x1 x2 x3 (ix3 b t n) =
    Cert.Proj.proj (fun k => x0 (ix3 b t k)) (fun k => x2 (ix1 k)) (fun k => x1 (ix3 (Cert.Proj.row b t) 0 k))
      (fun k => x1 (ix3 (Cert.Proj.row b t) 1 k)) (fun k => x3 (ix2 k ⟨1024 + n.val, by omega⟩)) := by
  rw [val_main_v42_apply, show idx_main_v42 (ix3 b t n) = ix3 b t ⟨1024 + n.val, by omega⟩ from by
    funext a; match a with | ⟨0, _⟩ => rfl | ⟨1, _⟩ => rfl | ⟨2, _⟩ => first | rfl | exact Fin.ext (Nat.add_comm _ _), z_at]

end Cert.Reference3Ideal.Proj

end
-- ==== Proof.Proj.Value.lean ====
/-
  The projection's two results: at every index what the reference says.
-/
module

public import proofs.«01_k».proof.Proof.Proj.Row
public import proofs.«01_k».proof.Proof.Proj.Blocks
public import proofs.«01_k».proof.Proof.Proj.Ref
public import Idealize.ShloMosaic.Lib.Pipeline.ValueKit.Geometry

@[expose] public section

set_option maxRecDepth 16384
set_option maxHeartbeats 4000000

noncomputable section

namespace Cert.Kernel3Ideal.Proj

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- A block index by its row and its column. -/
theorem split (y : S1x256x1024.Idx) : ∃ (r : Fin 256) (n : Fin 1024), y = ix3 0 r n := by
  refine ⟨y 1, y 2, ?_⟩
  funext a
  match a with
  | ⟨0, _⟩ => exact Fin.ext (by have : (y 0).val < 1 := (y 0).isLt; show (y 0).val = 0; omega)
  | ⟨1, _⟩ => rfl
  | ⟨2, _⟩ => rfl

/-- What a grid point loads, as the arguments' elements. -/
theorem loads (t : Fin cfg0.N) (r : Fin 256) (n : Fin 2048) :
    Cert.Proj.proj (fun k => View.ld (iblk m c 0 t) r0_0 (ix3 0 r k)) (fun k => View.ld (iblk m c 2 t) r0_1 (ix2 0 k))
      (fun k => View.ld (iblk m c 1 t) r0_2 (ix3 0 0 k)) (fun k => View.ld (iblk m c 1 t) r0_3 (ix3 0 0 k))
      (fun k => View.ld (iblk m c 3 t) r0_4 (ix2 k n)) =
    Cert.Proj.proj (fun k => m ((c : Thread nD τ).loc main_arg0) (ix3 (tb t) (tok t r) k)) (fun k => m ((c : Thread nD τ).loc main_arg2) (ix1 k))
      (fun k => m ((c : Thread nD τ).loc main_arg1) (ix3 (Cert.Proj.row (tb t) (tok t r)) 0 k))
      (fun k => m ((c : Thread nD τ).loc main_arg1) (ix3 (Cert.Proj.row (tb t) (tok t r)) 1 k))
      (fun k => m ((c : Thread nD τ).loc main_arg3) (ix2 k n)) := by
  congr 1
  · funext k
    refine Eq.trans (congrArg (iblk m c 0 t) ?_) (x_blk m c t r k)
    funext a; apply Fin.ext; fin_cases a <;> first | rfl | exact (Nat.zero_add _).trans (Nat.mul_one _) | exact (Nat.zero_add _).trans (Nat.one_mul _) | (simp [Rect.idx, Rect.unit]; done)
  · funext k
    refine Eq.trans (congrArg (iblk m c 2 t) ?_) (g_blk m c t k)
    funext a; apply Fin.ext; fin_cases a <;> first | rfl | exact (Nat.zero_add _).trans (Nat.mul_one _) | exact (Nat.zero_add _).trans (Nat.one_mul _) | (simp [Rect.idx, Rect.unit]; done)
  · funext k
    refine Eq.trans (congrArg (iblk m c 1 t) ?_) (mod_blk m c t r 0 k)
    funext a; apply Fin.ext; fin_cases a <;> first | rfl | exact (Nat.zero_add _).trans (Nat.mul_one _) | exact (Nat.zero_add _).trans (Nat.one_mul _) | (simp [Rect.idx, Rect.unit]; done)
  · funext k
    refine Eq.trans (congrArg (iblk m c 1 t) ?_) (mod_blk m c t r 1 k)
    funext a; apply Fin.ext; fin_cases a <;> first | rfl | exact (Nat.zero_add _).trans (Nat.mul_one _) | exact (Nat.zero_add _).trans (Nat.one_mul _) | (simp [Rect.idx, Rect.unit]; done)
  · funext k
    refine Eq.trans (congrArg (iblk m c 3 t) ?_) (w_blk m c t k n)
    funext a; apply Fin.ext; fin_cases a <;> first | rfl | exact (Nat.zero_add _).trans (Nat.mul_one _) | exact (Nat.zero_add _).trans (Nat.one_mul _) | (simp [Rect.idx, Rect.unit]; done)

theorem y_eq : (dats m 0 c).arrAt 4 cfg0.N = Cert.Reference3Ideal.Read.val_main_v41 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, n, rfl⟩ := split y
  rw [emb4, Cert.Reference3Ideal.Proj.y_at, ← loads m c t r, ← y_apply]
  unfold out0_4
  refine Eq.trans ?_ (Value.canon4_eq _ _ _ _ _ _)
  rfl

theorem u_eq : (dats m 0 c).arrAt 5 cfg0.N = Cert.Reference3Ideal.Read.val_main_v42 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, n, rfl⟩ := split y
  rw [emb5, Cert.Reference3Ideal.Proj.u_at, ← loads m c t r, ← u_apply]
  unfold out0_5
  refine Eq.trans ?_ (Value.canon5_eq _ _ _ _ _ _)
  rfl

end Cert.Kernel3Ideal.Proj

end
-- ==== Proof.Proj.Claims.lean ====
/-
  The projection before the recurrence: the reference's run, and the equality of both results.
-/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Proj.Value
public import Idealize.ShloMosaic.Adequacy
public import Idealize.ShloMosaic.Init

@[expose] public section

noncomputable section

namespace Cert.Proj

open Idealize.ShloMosaic Idealize.SL.Sem

/-- The reference runs and leaves its arguments and every counter as they were. -/
theorem frame_reference : Cert.quiescent_Reference3Ideal (hReference3Ideal := Cert.Reference3Ideal.Gen.facts) := by
  intro m g _
  exact (θ_run _ _ _).mono (fun r h => ⟨fun c => (h c).2.2, sem_eq_zero_of_no_sems (by decide) r.2⟩)
    (Cert.Reference3Ideal.Value.run m g)

set_option maxHeartbeats 1000000 in
/-- The projection computes both of the reference's results over the extended reals, at any arguments. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N, Cert.Kernel3Ideal.Value.run_blocks m g, ?_⟩
  refine (θ_run _ _ _).mono (fun r h c => ?_) (Cert.Reference3Ideal.Value.run m' g')
  obtain ⟨e0, e1, e2, e3⟩ := hagree c
  refine ⟨(h c).1.trans ?_, (h c).2.1.trans ?_, (h c).2.2⟩
  · rw [Cert.Reference3Ideal.Read.val_main_v41_eq, e0, e1, e2, e3]
    exact (Cert.Kernel3Ideal.Proj.y_eq m c).symm
  · refine (Cert.Reference3Ideal.Read.val_main_v42_eq _ _ _ _).trans ?_
    rw [e0, e1, e2, e3]
    exact (Cert.Kernel3Ideal.Proj.u_eq m c).symm

end Cert.Proj

end
-- ==== Proof.Attn.Step.lean ====
/-
  The attention body's operations on whole blocks, named: one key block's scores, the new running maximum, and the new
  left and right halves of the accumulator. The body's payloads are these functions.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-- Key block `j`: rows `768 j` to `768 j + 767`. -/
def kBlk (x3 : Vec F S1x8448x128 .bf16) (j : Fin 11) : Vec F S1x768x128 .bf16 :=
  View.ld x3 (Rect.unit ![0, 768 * j.val, 0] S1x768x128.size (by
    have := j.isLt
    intro a; fin_cases a
    · show 0 + 1 ≤ 1; omega
    · show 768 * j.val + 768 ≤ 8448; omega
    · show 0 + 128 ≤ 128; omega))

/-- Value block `j`. -/
def vBlk (x4 : Vec F S1x8448x256 .bf16) (j : Fin 11) : Vec F S1x768x256 .bf16 :=
  View.ld x4 (Rect.unit ![0, 768 * j.val, 0] S1x768x256.size (by
    have := j.isLt
    intro a; fin_cases a
    · show 0 + 1 ≤ 1; omega
    · show 768 * j.val + 768 ≤ 8448; omega
    · show 0 + 256 ≤ 256; omega))

/-- The scores of the doubled query tile against a key block. -/
def scoresOf (qz : FVec F S1024x128 .bf16) (kb : Vec F S1x768x128 .bf16) : FVec F S1024x768 .f32 :=
  matmul dot_S1024x128_S768x128_S1024x768_1_1_0_0_n_n none qz (shapeCast S768x128 kb shapeCasts_S1x768x128_S768x128)
    (constant S1024x768 .f32 0x00000000#32)

/-- The running maximum after a block of scores. -/
def mStep (s : FVec F S1024x768 .f32) (m : FVec F S1024x128 .f32) : FVec F S1024x128 .f32 :=
  maximumf m (broadcastTo S1024x128
    (shapeCast S1024x1 (multiReduction .maximumf [1] S1024 s 0xFF800000#32 reduces_S1024x768_S1024 (.inl rfl) rfl)
      shapeCasts_S1024_S1024x1) broadcasts_S1024x1_S1024x128)

/-- The block's weights times its values and its columns of ones. -/
def pvStep (s : FVec F S1024x768 .f32) (m : FVec F S1024x128 .f32) (vb : Vec F S1x768x256 .bf16) : FVec F S1024x256 .f32 :=
  matmul dot_S1024x768_S768x256_S1024x256_1_0_0_1_n_n none
    (exp2 (truncf .bf16 (subf s (broadcastTo S1024x768
      (extractStridedSlice S1024x1 ![0, 0] (mStep s m) slices_S1024x128_o0_0_S1024x1) broadcasts_S1024x1_S1024x768)) bitsLt_bf16_f32))
    (shapeCast S768x256 vb shapeCasts_S1x768x256_S768x256) (constant S1024x256 .f32 0x00000000#32)

/-- The left half of the accumulator (the weighted values) after the block. -/
def aStep (s : FVec F S1024x768 .f32) (m : FVec F S1024x128 .f32) (vb : Vec F S1x768x256 .bf16) (a : FVec F S1024x128 .f32) :
    FVec F S1024x128 .f32 :=
  addf (mulf (exp2 (subf m (mStep s m))) a)
    (extractStridedSlice S1024x128 ![0, 0] (pvStep s m vb) slices_S1024x256_o0_0_S1024x128)

/-- The right half of the accumulator (the sums of weights) after the block. -/
def bStep (s : FVec F S1024x768 .f32) (m : FVec F S1024x128 .f32) (vb : Vec F S1x768x256 .bf16) (b : FVec F S1024x128 .f32) :
    FVec F S1024x128 .f32 :=
  addf (mulf (exp2 (subf m (mStep s m))) b)
    (extractStridedSlice S1024x128 ![0, 128] (pvStep s m vb) slices_S1024x256_o0_128_S1024x128)

end Cert.KernelIdeal.Attn

end
-- ==== Proof.Attn.Words.lean ====
/-
  What the attention body's run reads back from its scratch buffers, block by block: the words of the run are the block
  functions of Step.lean applied to the words before them.
-/
module

public import proofs.«01_k».proof.Proof.Attn.Step

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

variable (c : Dev nD) (i : grid0.Coords) (arg3 : Memref sig .tc .vmem S8x128 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x8448x128 .bf16) (harg6 : arg6.IsWhole) (arg7 : Memref sig .tc .vmem S1x8448x256 .bf16) (harg7 : arg7.IsWhole) (arg8 : Memref sig .tc .vmem S1x512x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x768 .f32) (harg12 : arg12.IsWhole) (arg13 : Memref sig .tc .vmem S1024x768 .f32) (harg13 : arg13.IsWhole)
  (x0 : Vec F S8x128 .f32) (x1 : Vec F S1x128 .f32) (x2 : Vec F S1x512x128 .bf16) (x3 : Vec F S1x8448x128 .bf16) (x4 : Vec F S1x8448x256 .bf16)

/-- The scores of block 0. -/
theorem s_0 :
    (kernelRun0_A.sl.v43 c arg5 harg5 arg6 harg6 arg9 arg12 x2 x3) =
      scoresOf (kernelRun0_A.sl.v25 c arg5 harg5 arg9 x2) (kBlk x3 0) := by
  unfold kernelRun0_A.sl.v43 kernelRun0_A.sl.HS3_1 kernelRun0_A.sl.r
  simp (disch := decide) only [↓ View.readCov_skip, ↓ View.readCov_cons_toLoadRect, ↓ View.readCov_fill, View.readAt_eq_ld, Memref.IsWhole.read_unread, shapeCast_self, k0_pay8, k0_pay9]
  rfl

/-- The scores of block 1. -/
theorem s_1 :
    (kernelRun0_A.sl.v87 c arg5 harg5 arg6 harg6 arg9 arg13 x2 x3) =
      scoresOf (kernelRun0_A.sl.v25 c arg5 harg5 arg9 x2) (kBlk x3 1) := by
  unfold kernelRun0_A.sl.v87 kernelRun0_A.sl.HS4_1
  simp (disch := decide) only [↓ View.readCov_skip, ↓ View.readCov_cons_toLoadRect, ↓ View.readCov_fill, View.readAt_eq_ld, Memref.IsWhole.read_unread, shapeCast_self, k0_pay10]
  rfl

/-- The scores of block 2. -/
theorem s_2 :
    (kernelRun0_A.sl.v131 c arg5 harg5 arg6 harg6 arg9 arg12 x2 x3) =
      scoresOf (kernelRun0_A.sl.v25 c arg5 harg5 arg9 x2) (kBlk x3 2) := by
  unfold kernelRun0_A.sl.v131 kernelRun0_A.sl.HS3_2
  simp (disch := decide) only [↓ View.readCov_skip, ↓ View.readCov_cons_toLoadRect, ↓ View.readCov_fill, View.readAt_eq_ld, Memref.IsWhole.read_unread, shapeCast_self, k0_pay18]
  rfl

/-- The scores of block 3. -/
theorem s_3 :
    (kernelRun0_A.sl.v175 c arg5 harg5 arg6 harg6 arg9 arg13 x2 x3) =
      scoresOf (kernelRun0_A.sl.v25 c arg5 harg5 arg9 x2) (kBlk x3 3) := by
  unfold kernelRun0_A.sl.v175 kernelRun0_A.sl.HS4_2
  simp (disch := decide) only [↓ View.readCov_skip, ↓ View.readCov_cons_toLoadRect, ↓ View.readCov_fill, View.readAt_eq_ld, Memref.IsWhole.read_unread, shapeCast_self, k0_pay26]
  rfl

/-- The scores of block 4. -/
theorem s_4 :
    (kernelRun0_A.sl.v219 c arg5 harg5 arg6 harg6 arg9 arg12 x2 x3) =
      scoresOf (kernelRun0_A.sl.v25 c arg5 harg5 arg9 x2) (kBlk x3 4) := by
  unfold kernelRun0_A.sl.v219 kernelRun0_A.sl.HS3_3 kernelRun0_A.sl.r_8
  simp (disch := decide) only [↓ View.readCov_skip, ↓ View.readCov_cons_toLoadRect, ↓ View.readCov_fill, View.readAt_eq_ld, Memref.IsWhole.read_unread, shapeCast_self, k0_pay33, k0_pay34]
  rfl

/-- The scores of block 5. -/
theorem s_5 :
    (kernelRun0_A.sl.v263 c arg5 harg5 arg6 harg6 arg9 arg13 x2 x3) =
      scoresOf (kernelRun0_A.sl.v25 c arg5 harg5 arg9 x2) (kBlk x3 5) := by
  unfold kernelRun0_A.sl.v263 kernelRun0_A.sl.HS4_3
  simp (disch := decide) only [↓ View.readCov_skip, ↓ View.readCov_cons_toLoadRect, ↓ View.readCov_fill, View.readAt_eq_ld, Memref.IsWhole.read_unread, shapeCast_self, k0_pay41]
  rfl

/-- The scores of block 6. -/
theorem s_6 :
    (kernelRun0_A.sl.v307 c arg5 harg5 arg6 harg6 arg9 arg12 x2 x3) =
      scoresOf (kernelRun0_A.sl.v25 c arg5 harg5 arg9 x2) (kBlk x3 6) := by
  unfold kernelRun0_A.sl.v307 kernelRun0_A.sl.HS3_4
  simp (disch := decide) only [↓ View.readCov_skip, ↓ View.readCov_cons_toLoadRect, ↓ View.readCov_fill, View.readAt_eq_ld, Memref.IsWhole.read_unread, shapeCast_self, k0_pay49]
  rfl

/-- The scores of block 7. -/
theorem s_7 :
    (kernelRun0_A.sl.v351 c arg5 harg5 arg6 harg6 arg9 arg13 x2 x3) =
      scoresOf (kernelRun0_A.sl.v25 c arg5 harg5 arg9 x2) (kBlk x3 7) := by
  unfold kernelRun0_A.sl.v351 kernelRun0_A.sl.HS4_4
  simp (disch := decide) only [↓ View.readCov_skip, ↓ View.readCov_cons_toLoadRect, ↓ View.readCov_fill, View.readAt_eq_ld, Memref.IsWhole.read_unread, shapeCast_self, k0_pay57]
  rfl

/-- The scores of block 8. -/
theorem s_8 :
    (kernelRun0_A.sl.v395 c arg5 harg5 arg6 harg6 arg9 arg12 x2 x3) =
      scoresOf (kernelRun0_A.sl.v25 c arg5 harg5 arg9 x2) (kBlk x3 8) := by
  unfold kernelRun0_A.sl.v395 kernelRun0_A.sl.HS3_5 kernelRun0_A.sl.r_17
  simp (disch := decide) only [↓ View.readCov_skip, ↓ View.readCov_cons_toLoadRect, ↓ View.readCov_fill, View.readAt_eq_ld, Memref.IsWhole.read_unread, shapeCast_self, k0_pay64, k0_pay65]
  rfl

/-- The scores of block 9. -/
theorem s_9 :
    (kernelRun0_A.sl.v439 c arg5 harg5 arg6 harg6 arg9 arg13 x2 x3) =
      scoresOf (kernelRun0_A.sl.v25 c arg5 harg5 arg9 x2) (kBlk x3 9) := by
  unfold kernelRun0_A.sl.v439 kernelRun0_A.sl.HS4_5
  simp (disch := decide) only [↓ View.readCov_skip, ↓ View.readCov_cons_toLoadRect, ↓ View.readCov_fill, View.readAt_eq_ld, Memref.IsWhole.read_unread, shapeCast_self, k0_pay72]
  rfl

/-- The scores of block 10. -/
theorem s_10 :
    (kernelRun0_A.sl.v474 c arg5 harg5 arg6 harg6 arg9 arg12 x2 x3) =
      scoresOf (kernelRun0_A.sl.v25 c arg5 harg5 arg9 x2) (kBlk x3 10) := by
  unfold kernelRun0_A.sl.v474 kernelRun0_A.sl.HS3_6
  simp (disch := decide) only [↓ View.readCov_skip, ↓ View.readCov_cons_toLoadRect, ↓ View.readCov_fill, View.readAt_eq_ld, Memref.IsWhole.read_unread, shapeCast_self, k0_pay80]
  rfl

/-- The running maximum starts at the finite stand-in for minus infinity. -/
theorem m_0 :
    (kernelRun0_A.sl.v44 (F := F) c arg10) =
      broadcast S1024x128 (Scalar.ofBits .f32 0xF149F2CA#32) := by
  unfold kernelRun0_A.sl.v44 kernelRun0_A.sl.HS1_1
  simp (disch := decide) only [↓ View.readCov_skip, ↓ View.readCov_cons_toLoadRect, ↓ View.readCov_fill, View.readAt_eq_ld, Memref.IsWhole.read_unread, shapeCast_self, k0_pay6]

/-- The left half of the accumulator starts at zero. -/
theorem a_0 :
    (kernelRun0_A.sl.v60 (F := F) c arg11) =
      broadcast S1024x128 (Scalar.ofBits .f32 0x00000000#32) := by
  unfold kernelRun0_A.sl.v60 kernelRun0_A.sl.HS2_1
  simp (disch := decide) only [↓ View.readCov_skip, ↓ View.readCov_cons_toLoadRect, ↓ View.readCov_fill, View.readAt_eq_ld, Memref.IsWhole.read_unread, shapeCast_self, k0_pay7]
  rfl

/-- The right half of the accumulator starts at zero. -/
theorem b_0 :
    (kernelRun0_A.sl.v67 c arg5 harg5 arg6 harg6 arg7 harg7 arg9 arg10 arg11 arg12 x2 x3 x4) =
      broadcast S1024x128 (Scalar.ofBits .f32 0x00000000#32) := by
  unfold kernelRun0_A.sl.v67 kernelRun0_A.sl.HS2_2 kernelRun0_A.sl.HS2_1
  simp (disch := decide) only [↓ View.readCov_skip, ↓ View.readCov_cons_toLoadRect, ↓ View.readCov_fill, View.readAt_eq_ld, Memref.IsWhole.read_unread, shapeCast_self, k0_pay7]
  rfl

/-- The running maximum after block 0. -/
theorem m_1 :
    (kernelRun0_A.sl.v88 c arg5 harg5 arg6 harg6 arg9 arg10 arg12 x2 x3) =
      mStep (kernelRun0_A.sl.v43 c arg5 harg5 arg6 harg6 arg9 arg12 x2 x3) (kernelRun0_A.sl.v44 (F := F) c arg10) := by
  unfold kernelRun0_A.sl.v88 kernelRun0_A.sl.HS1_2 kernelRun0_A.sl.r_1
  simp (disch := decide) only [↓ View.readCov_skip, ↓ View.readCov_cons_toLoadRect, ↓ View.readCov_fill, View.readAt_eq_ld, Memref.IsWhole.read_unread, shapeCast_self, k0_pay11, k0_pay17]
  rfl

/-- The running maximum after block 1. -/
theorem m_2 :
    (kernelRun0_A.sl.v132 c arg5 harg5 arg6 harg6 arg9 arg10 arg12 arg13 x2 x3) =
      mStep (kernelRun0_A.sl.v87 c arg5 harg5 arg6 harg6 arg9 arg13 x2 x3) (kernelRun0_A.sl.v88 c arg5 harg5 arg6 harg6 arg9 arg10 arg12 x2 x3) := by
  unfold kernelRun0_A.sl.v132 kernelRun0_A.sl.HS1_3 kernelRun0_A.sl.r_5
  simp (disch := decide) only [↓ View.readCov_skip, ↓ View.readCov_cons_toLoadRect, ↓ View.readCov_fill, View.readAt_eq_ld, Memref.IsWhole.read_unread, shapeCast_self, k0_pay19, k0_pay25]
  rfl

/-- The running maximum after block 2. -/
theorem m_3 :
    (kernelRun0_A.sl.v176 c arg5 harg5 arg6 harg6 arg9 arg10 arg12 arg13 x2 x3) =
      mStep (kernelRun0_A.sl.v131 c arg5 harg5 arg6 harg6 arg9 arg12 x2 x3) (kernelRun0_A.sl.v132 c arg5 harg5 arg6 harg6 arg9 arg10 arg12 arg13 x2 x3) := by
  unfold kernelRun0_A.sl.v176 kernelRun0_A.sl.HS1_4
  simp (disch := decide) only [↓ View.readCov_skip, ↓ View.readCov_cons_toLoadRect, ↓ View.readCov_fill, View.readAt_eq_ld, Memref.IsWhole.read_unread, shapeCast_self, k0_pay27, k0_pay32]
  rfl

/-- The running maximum after block 3. -/
theorem m_4 :
    (kernelRun0_A.sl.v220 c arg5 harg5 arg6 harg6 arg9 arg10 arg12 arg13 x2 x3) =
      mStep (kernelRun0_A.sl.v175 c arg5 harg5 arg6 harg6 arg9 arg13 x2 x3) (kernelRun0_A.sl.v176 c arg5 harg5 arg6 harg6 arg9 arg10 arg12 arg13 x2 x3) := by
  unfold kernelRun0_A.sl.v220 kernelRun0_A.sl.HS1_5 kernelRun0_A.sl.r_9
  simp (disch := decide) only [↓ View.readCov_skip, ↓ View.readCov_cons_toLoadRect, ↓ View.readCov_fill, View.readAt_eq_ld, Memref.IsWhole.read_unread, shapeCast_self, k0_pay35, k0_pay40]
  rfl

/-- The running maximum after block 4. -/
theorem m_5 :
    (kernelRun0_A.sl.v264 c arg5 harg5 arg6 harg6 arg9 arg10 arg12 arg13 x2 x3) =
      mStep (kernelRun0_A.sl.v219 c arg5 harg5 arg6 harg6 arg9 arg12 x2 x3) (kernelRun0_A.sl.v220 c arg5 harg5 arg6 harg6 arg9 arg10 arg12 arg13 x2 x3) := by
  unfold kernelRun0_A.sl.v264 kernelRun0_A.sl.HS1_6 kernelRun0_A.sl.r_10
  simp (disch := decide) only [↓ View.readCov_skip, ↓ View.readCov_cons_toLoadRect, ↓ View.readCov_fill, View.readAt_eq_ld, Memref.IsWhole.read_unread, shapeCast_self, k0_pay42, k0_pay48]
  rfl

/-- The running maximum after block 5. -/
theorem m_6 :
    (kernelRun0_A.sl.v308 c arg5 harg5 arg6 harg6 arg9 arg10 arg12 arg13 x2 x3) =
      mStep (kernelRun0_A.sl.v263 c arg5 harg5 arg6 harg6 arg9 arg13 x2 x3) (kernelRun0_A.sl.v264 c arg5 harg5 arg6 harg6 arg9 arg10 arg12 arg13 x2 x3) := by
  unfold kernelRun0_A.sl.v308 kernelRun0_A.sl.HS1_7 kernelRun0_A.sl.r_14
  simp (disch := decide) only [↓ View.readCov_skip, ↓ View.readCov_cons_toLoadRect, ↓ View.readCov_fill, View.readAt_eq_ld, Memref.IsWhole.read_unread, shapeCast_self, k0_pay50, k0_pay56]
  rfl

/-- The running maximum after block 6. -/
theorem m_7 :
    (kernelRun0_A.sl.v352 c arg5 harg5 arg6 harg6 arg9 arg10 arg12 arg13 x2 x3) =
      mStep (kernelRun0_A.sl.v307 c arg5 harg5 arg6 harg6 arg9 arg12 x2 x3) (kernelRun0_A.sl.v308 c arg5 harg5 arg6 harg6 arg9 arg10 arg12 arg13 x2 x3) := by
  unfold kernelRun0_A.sl.v352 kernelRun0_A.sl.HS1_8
  simp (disch := decide) only [↓ View.readCov_skip, ↓ View.readCov_cons_toLoadRect, ↓ View.readCov_fill, View.readAt_eq_ld, Memref.IsWhole.read_unread, shapeCast_self, k0_pay58, k0_pay63]
  rfl

/-- The running maximum after block 7. -/
theorem m_8 :
    (kernelRun0_A.sl.v396 c arg5 harg5 arg6 harg6 arg9 arg10 arg12 arg13 x2 x3) =
      mStep (kernelRun0_A.sl.v351 c arg5 harg5 arg6 harg6 arg9 arg13 x2 x3) (kernelRun0_A.sl.v352 c arg5 harg5 arg6 harg6 arg9 arg10 arg12 arg13 x2 x3) := by
  unfold kernelRun0_A.sl.v396 kernelRun0_A.sl.HS1_9 kernelRun0_A.sl.r_18
  simp (disch := decide) only [↓ View.readCov_skip, ↓ View.readCov_cons_toLoadRect, ↓ View.readCov_fill, View.readAt_eq_ld, Memref.IsWhole.read_unread, shapeCast_self, k0_pay66, k0_pay71]
  rfl

/-- The running maximum after block 8. -/
theorem m_9 :
    (kernelRun0_A.sl.v440 c arg5 harg5 arg6 harg6 arg9 arg10 arg12 arg13 x2 x3) =
      mStep (kernelRun0_A.sl.v395 c arg5 harg5 arg6 harg6 arg9 arg12 x2 x3) (kernelRun0_A.sl.v396 c arg5 harg5 arg6 harg6 arg9 arg10 arg12 arg13 x2 x3) := by
  unfold kernelRun0_A.sl.v440 kernelRun0_A.sl.HS1_10 kernelRun0_A.sl.r_19
  simp (disch := decide) only [↓ View.readCov_skip, ↓ View.readCov_cons_toLoadRect, ↓ View.readCov_fill, View.readAt_eq_ld, Memref.IsWhole.read_unread, shapeCast_self, k0_pay73, k0_pay79]
  rfl

/-- The running maximum after block 9. -/
theorem m_10 :
    (kernelRun0_A.sl.v475 c arg5 harg5 arg6 harg6 arg9 arg10 arg12 arg13 x2 x3) =
      mStep (kernelRun0_A.sl.v439 c arg5 harg5 arg6 harg6 arg9 arg13 x2 x3) (kernelRun0_A.sl.v440 c arg5 harg5 arg6 harg6 arg9 arg10 arg12 arg13 x2 x3) := by
  unfold kernelRun0_A.sl.v475 kernelRun0_A.sl.HS1_11 kernelRun0_A.sl.r_23
  simp (disch := decide) only [↓ View.readCov_skip, ↓ View.readCov_cons_toLoadRect, ↓ View.readCov_fill, View.readAt_eq_ld, Memref.IsWhole.read_unread, shapeCast_self, k0_pay81, k0_pay87]
  rfl

/-- The weighted values after block 0. -/
theorem a_1 :
    (kernelRun0_A.sl.v104 c arg5 harg5 arg6 harg6 arg7 harg7 arg9 arg10 arg11 arg12 x2 x3 x4) =
      aStep (kernelRun0_A.sl.v43 c arg5 harg5 arg6 harg6 arg9 arg12 x2 x3) (kernelRun0_A.sl.v44 (F := F) c arg10) (vBlk x4 0) (kernelRun0_A.sl.v60 (F := F) c arg11) := by
  unfold kernelRun0_A.sl.v104 kernelRun0_A.sl.HS2_3 kernelRun0_A.sl.HS2_2 kernelRun0_A.sl.r_4
  simp (disch := decide) only [↓ View.readCov_skip, ↓ View.readCov_cons_toLoadRect, ↓ View.readCov_fill, View.readAt_eq_ld, Memref.IsWhole.read_unread, shapeCast_self, k0_pay11, k0_pay12, k0_pay13, k0_pay14, k0_pay15]
  rfl

/-- The sums of weights after block 0. -/
theorem b_1 :
    (kernelRun0_A.sl.v111 c arg5 harg5 arg6 harg6 arg7 harg7 arg9 arg10 arg11 arg12 arg13 x2 x3 x4) =
      bStep (kernelRun0_A.sl.v43 c arg5 harg5 arg6 harg6 arg9 arg12 x2 x3) (kernelRun0_A.sl.v44 (F := F) c arg10) (vBlk x4 0) (kernelRun0_A.sl.v67 c arg5 harg5 arg6 harg6 arg7 harg7 arg9 arg10 arg11 arg12 x2 x3 x4) := by
  unfold kernelRun0_A.sl.v111 kernelRun0_A.sl.HS2_4 kernelRun0_A.sl.HS2_3 kernelRun0_A.sl.r_2 kernelRun0_A.sl.r_3
  simp (disch := decide) only [↓ View.readCov_skip, ↓ View.readCov_cons_toLoadRect, ↓ View.readCov_fill, View.readAt_eq_ld, Memref.IsWhole.read_unread, shapeCast_self, k0_pay11, k0_pay12, k0_pay13, k0_pay16]
  rfl

/-- The weighted values after block 1. -/
theorem a_2 :
    (kernelRun0_A.sl.v148 c arg5 harg5 arg6 harg6 arg7 harg7 arg9 arg10 arg11 arg12 arg13 x2 x3 x4) =
      aStep (kernelRun0_A.sl.v87 c arg5 harg5 arg6 harg6 arg9 arg13 x2 x3) (kernelRun0_A.sl.v88 c arg5 harg5 arg6 harg6 arg9 arg10 arg12 x2 x3) (vBlk x4 1) (kernelRun0_A.sl.v104 c arg5 harg5 arg6 harg6 arg7 harg7 arg9 arg10 arg11 arg12 x2 x3 x4) := by
  unfold kernelRun0_A.sl.v148 kernelRun0_A.sl.HS2_5 kernelRun0_A.sl.HS2_4 kernelRun0_A.sl.r_6 kernelRun0_A.sl.r_7
  simp (disch := decide) only [↓ View.readCov_skip, ↓ View.readCov_cons_toLoadRect, ↓ View.readCov_fill, View.readAt_eq_ld, Memref.IsWhole.read_unread, shapeCast_self, k0_pay19, k0_pay20, k0_pay21, k0_pay22, k0_pay23]
  rfl

/-- The sums of weights after block 1. -/
theorem b_2 :
    (kernelRun0_A.sl.v155 c arg5 harg5 arg6 harg6 arg7 harg7 arg9 arg10 arg11 arg12 arg13 x2 x3 x4) =
      bStep (kernelRun0_A.sl.v87 c arg5 harg5 arg6 harg6 arg9 arg13 x2 x3) (kernelRun0_A.sl.v88 c arg5 harg5 arg6 harg6 arg9 arg10 arg12 x2 x3) (vBlk x4 1) (kernelRun0_A.sl.v111 c arg5 harg5 arg6 harg6 arg7 harg7 arg9 arg10 arg11 arg12 arg13 x2 x3 x4) := by
  unfold kernelRun0_A.sl.v155 kernelRun0_A.sl.HS2_6 kernelRun0_A.sl.HS2_5 kernelRun0_A.sl.r_6 kernelRun0_A.sl.r_7
  simp (disch := decide) only [↓ View.readCov_skip, ↓ View.readCov_cons_toLoadRect, ↓ View.readCov_fill, View.readAt_eq_ld, Memref.IsWhole.read_unread, shapeCast_self, k0_pay19, k0_pay20, k0_pay21, k0_pay22, k0_pay24]
  rfl

/-- The weighted values after block 2. -/
theorem a_3 :
    (kernelRun0_A.sl.v192 c arg5 harg5 arg6 harg6 arg7 harg7 arg9 arg10 arg11 arg12 arg13 x2 x3 x4) =
      aStep (kernelRun0_A.sl.v131 c arg5 harg5 arg6 harg6 arg9 arg12 x2 x3) (kernelRun0_A.sl.v132 c arg5 harg5 arg6 harg6 arg9 arg10 arg12 arg13 x2 x3) (vBlk x4 2) (kernelRun0_A.sl.v148 c arg5 harg5 arg6 harg6 arg7 harg7 arg9 arg10 arg11 arg12 arg13 x2 x3 x4) := by
  unfold kernelRun0_A.sl.v192 kernelRun0_A.sl.HS2_7 kernelRun0_A.sl.HS2_6
  simp (disch := decide) only [↓ View.readCov_skip, ↓ View.readCov_cons_toLoadRect, ↓ View.readCov_fill, View.readAt_eq_ld, Memref.IsWhole.read_unread, shapeCast_self, k0_pay27, k0_pay28, k0_pay29, k0_pay30]
  rfl

/-- The sums of weights after block 2. -/
theorem b_3 :
    (kernelRun0_A.sl.v199 c arg5 harg5 arg6 harg6 arg7 harg7 arg9 arg10 arg11 arg12 arg13 x2 x3 x4) =
      bStep (kernelRun0_A.sl.v131 c arg5 harg5 arg6 harg6 arg9 arg12 x2 x3) (kernelRun0_A.sl.v132 c arg5 harg5 arg6 harg6 arg9 arg10 arg12 arg13 x2 x3) (vBlk x4 2) (kernelRun0_A.sl.v155 c arg5 harg5 arg6 harg6 arg7 harg7 arg9 arg10 arg11 arg12 arg13 x2 x3 x4) := by
  unfold kernelRun0_A.sl.v199 kernelRun0_A.sl.HS2_8 kernelRun0_A.sl.HS2_7
  simp (disch := decide) only [↓ View.readCov_skip, ↓ View.readCov_cons_toLoadRect, ↓ View.readCov_fill, View.readAt_eq_ld, Memref.IsWhole.read_unread, shapeCast_self, k0_pay27, k0_pay28, k0_pay29, k0_pay31]
  rfl

/-- The weighted values after block 3. -/
theorem a_4 :
    (kernelRun0_A.sl.v236 c arg5 harg5 arg6 harg6 arg7 harg7 arg9 arg10 arg11 arg12 arg13 x2 x3 x4) =
      aStep (kernelRun0_A.sl.v175 c arg5 harg5 arg6 harg6 arg9 arg13 x2 x3) (kernelRun0_A.sl.v176 c arg5 harg5 arg6 harg6 arg9 arg10 arg12 arg13 x2 x3) (vBlk x4 3) (kernelRun0_A.sl.v192 c arg5 harg5 arg6 harg6 arg7 harg7 arg9 arg10 arg11 arg12 arg13 x2 x3 x4) := by
  unfold kernelRun0_A.sl.v236 kernelRun0_A.sl.HS2_9 kernelRun0_A.sl.HS2_8
  simp (disch := decide) only [↓ View.readCov_skip, ↓ View.readCov_cons_toLoadRect, ↓ View.readCov_fill, View.readAt_eq_ld, Memref.IsWhole.read_unread, shapeCast_self, k0_pay35, k0_pay36, k0_pay37, k0_pay38]
  rfl

/-- The sums of weights after block 3. -/
theorem b_4 :
    (kernelRun0_A.sl.v243 c arg5 harg5 arg6 harg6 arg7 harg7 arg9 arg10 arg11 arg12 arg13 x2 x3 x4) =
      bStep (kernelRun0_A.sl.v175 c arg5 harg5 arg6 harg6 arg9 arg13 x2 x3) (kernelRun0_A.sl.v176 c arg5 harg5 arg6 harg6 arg9 arg10 arg12 arg13 x2 x3) (vBlk x4 3) (kernelRun0_A.sl.v199 c arg5 harg5 arg6 harg6 arg7 harg7 arg9 arg10 arg11 arg12 arg13 x2 x3 x4) := by
  unfold kernelRun0_A.sl.v243 kernelRun0_A.sl.HS2_10 kernelRun0_A.sl.HS2_9
  simp (disch := decide) only [↓ View.readCov_skip, ↓ View.readCov_cons_toLoadRect, ↓ View.readCov_fill, View.readAt_eq_ld, Memref.IsWhole.read_unread, shapeCast_self, k0_pay35, k0_pay36, k0_pay37, k0_pay39]
  rfl

/-- The weighted values after block 4. -/
theorem a_5 :
    (kernelRun0_A.sl.v280 c arg5 harg5 arg6 harg6 arg7 harg7 arg9 arg10 arg11 arg12 arg13 x2 x3 x4) =
      aStep (kernelRun0_A.sl.v219 c arg5 harg5 arg6 harg6 arg9 arg12 x2 x3) (kernelRun0_A.sl.v220 c arg5 harg5 arg6 harg6 arg9 arg10 arg12 arg13 x2 x3) (vBlk x4 4) (kernelRun0_A.sl.v236 c arg5 harg5 arg6 harg6 arg7 harg7 arg9 arg10 arg11 arg12 arg13 x2 x3 x4) := by
  unfold kernelRun0_A.sl.v280 kernelRun0_A.sl.HS2_11 kernelRun0_A.sl.HS2_10 kernelRun0_A.sl.r_13
  simp (disch := decide) only [↓ View.readCov_skip, ↓ View.readCov_cons_toLoadRect, ↓ View.readCov_fill, View.readAt_eq_ld, Memref.IsWhole.read_unread, shapeCast_self, k0_pay42, k0_pay43, k0_pay44, k0_pay45, k0_pay46]
  rfl

/-- The sums of weights after block 4. -/
theorem b_5 :
    (kernelRun0_A.sl.v287 c arg5 harg5 arg6 harg6 arg7 harg7 arg9 arg10 arg11 arg12 arg13 x2 x3 x4) =
      bStep (kernelRun0_A.sl.v219 c arg5 harg5 arg6 harg6 arg9 arg12 x2 x3) (kernelRun0_A.sl.v220 c arg5 harg5 arg6 harg6 arg9 arg10 arg12 arg13 x2 x3) (vBlk x4 4) (kernelRun0_A.sl.v243 c arg5 harg5 arg6 harg6 arg7 harg7 arg9 arg10 arg11 arg12 arg13 x2 x3 x4) := by
  unfold kernelRun0_A.sl.v287 kernelRun0_A.sl.HS2_12 kernelRun0_A.sl.HS2_11 kernelRun0_A.sl.r_11 kernelRun0_A.sl.r_12
  simp (disch := decide) only [↓ View.readCov_skip, ↓ View.readCov_cons_toLoadRect, ↓ View.readCov_fill, View.readAt_eq_ld, Memref.IsWhole.read_unread, shapeCast_self, k0_pay42, k0_pay43, k0_pay44, k0_pay47]
  rfl

/-- The weighted values after block 5. -/
theorem a_6 :
    (kernelRun0_A.sl.v324 c arg5 harg5 arg6 harg6 arg7 harg7 arg9 arg10 arg11 arg12 arg13 x2 x3 x4) =
      aStep (kernelRun0_A.sl.v263 c arg5 harg5 arg6 harg6 arg9 arg13 x2 x3) (kernelRun0_A.sl.v264 c arg5 harg5 arg6 harg6 arg9 arg10 arg12 arg13 x2 x3) (vBlk x4 5) (kernelRun0_A.sl.v280 c arg5 harg5 arg6 harg6 arg7 harg7 arg9 arg10 arg11 arg12 arg13 x2 x3 x4) := by
  unfold kernelRun0_A.sl.v324 kernelRun0_A.sl.HS2_13 kernelRun0_A.sl.HS2_12 kernelRun0_A.sl.r_15 kernelRun0_A.sl.r_16
  simp (disch := decide) only [↓ View.readCov_skip, ↓ View.readCov_cons_toLoadRect, ↓ View.readCov_fill, View.readAt_eq_ld, Memref.IsWhole.read_unread, shapeCast_self, k0_pay50, k0_pay51, k0_pay52, k0_pay53, k0_pay54]
  rfl

/-- The sums of weights after block 5. -/
theorem b_6 :
    (kernelRun0_A.sl.v331 c arg5 harg5 arg6 harg6 arg7 harg7 arg9 arg10 arg11 arg12 arg13 x2 x3 x4) =
      bStep (kernelRun0_A.sl.v263 c arg5 harg5 arg6 harg6 arg9 arg13 x2 x3) (kernelRun0_A.sl.v264 c arg5 harg5 arg6 harg6 arg9 arg10 arg12 arg13 x2 x3) (vBlk x4 5) (kernelRun0_A.sl.v287 c arg5 harg5 arg6 harg6 arg7 harg7 arg9 arg10 arg11 arg12 arg13 x2 x3 x4) := by
  unfold kernelRun0_A.sl.v331 kernelRun0_A.sl.HS2_14 kernelRun0_A.sl.HS2_13 kernelRun0_A.sl.r_15 kernelRun0_A.sl.r_16
  simp (disch := decide) only [↓ View.readCov_skip, ↓ View.readCov_cons_toLoadRect, ↓ View.readCov_fill, View.readAt_eq_ld, Memref.IsWhole.read_unread, shapeCast_self, k0_pay50, k0_pay51, k0_pay52, k0_pay53, k0_pay55]
  rfl

/-- The weighted values after block 6. -/
theorem a_7 :
    (kernelRun0_A.sl.v368 c arg5 harg5 arg6 harg6 arg7 harg7 arg9 arg10 arg11 arg12 arg13 x2 x3 x4) =
      aStep (kernelRun0_A.sl.v307 c arg5 harg5 arg6 harg6 arg9 arg12 x2 x3) (kernelRun0_A.sl.v308 c arg5 harg5 arg6 harg6 arg9 arg10 arg12 arg13 x2 x3) (vBlk x4 6) (kernelRun0_A.sl.v324 c arg5 harg5 arg6 harg6 arg7 harg7 arg9 arg10 arg11 arg12 arg13 x2 x3 x4) := by
  unfold kernelRun0_A.sl.v368 kernelRun0_A.sl.HS2_15 kernelRun0_A.sl.HS2_14
  simp (disch := decide) only [↓ View.readCov_skip, ↓ View.readCov_cons_toLoadRect, ↓ View.readCov_fill, View.readAt_eq_ld, Memref.IsWhole.read_unread, shapeCast_self, k0_pay58, k0_pay59, k0_pay60, k0_pay61]
  rfl

/-- The sums of weights after block 6. -/
theorem b_7 :
    (kernelRun0_A.sl.v375 c arg5 harg5 arg6 harg6 arg7 harg7 arg9 arg10 arg11 arg12 arg13 x2 x3 x4) =
      bStep (kernelRun0_A.sl.v307 c arg5 harg5 arg6 harg6 arg9 arg12 x2 x3) (kernelRun0_A.sl.v308 c arg5 harg5 arg6 harg6 arg9 arg10 arg12 arg13 x2 x3) (vBlk x4 6) (kernelRun0_A.sl.v331 c arg5 harg5 arg6 harg6 arg7 harg7 arg9 arg10 arg11 arg12 arg13 x2 x3 x4) := by
  unfold kernelRun0_A.sl.v375 kernelRun0_A.sl.HS2_16 kernelRun0_A.sl.HS2_15
  simp (disch := decide) only [↓ View.readCov_skip, ↓ View.readCov_cons_toLoadRect, ↓ View.readCov_fill, View.readAt_eq_ld, Memref.IsWhole.read_unread, shapeCast_self, k0_pay58, k0_pay59, k0_pay60, k0_pay62]
  rfl

/-- The weighted values after block 7. -/
theorem a_8 :
    (kernelRun0_A.sl.v412 c arg5 harg5 arg6 harg6 arg7 harg7 arg9 arg10 arg11 arg12 arg13 x2 x3 x4) =
      aStep (kernelRun0_A.sl.v351 c arg5 harg5 arg6 harg6 arg9 arg13 x2 x3) (kernelRun0_A.sl.v352 c arg5 harg5 arg6 harg6 arg9 arg10 arg12 arg13 x2 x3) (vBlk x4 7) (kernelRun0_A.sl.v368 c arg5 harg5 arg6 harg6 arg7 harg7 arg9 arg10 arg11 arg12 arg13 x2 x3 x4) := by
  unfold kernelRun0_A.sl.v412 kernelRun0_A.sl.HS2_17 kernelRun0_A.sl.HS2_16
  simp (disch := decide) only [↓ View.readCov_skip, ↓ View.readCov_cons_toLoadRect, ↓ View.readCov_fill, View.readAt_eq_ld, Memref.IsWhole.read_unread, shapeCast_self, k0_pay66, k0_pay67, k0_pay68, k0_pay69]
  rfl

/-- The sums of weights after block 7. -/
theorem b_8 :
    (kernelRun0_A.sl.v419 c arg5 harg5 arg6 harg6 arg7 harg7 arg9 arg10 arg11 arg12 arg13 x2 x3 x4) =
      bStep (kernelRun0_A.sl.v351 c arg5 harg5 arg6 harg6 arg9 arg13 x2 x3) (kernelRun0_A.sl.v352 c arg5 harg5 arg6 harg6 arg9 arg10 arg12 arg13 x2 x3) (vBlk x4 7) (kernelRun0_A.sl.v375 c arg5 harg5 arg6 harg6 arg7 harg7 arg9 arg10 arg11 arg12 arg13 x2 x3 x4) := by
  unfold kernelRun0_A.sl.v419 kernelRun0_A.sl.HS2_18 kernelRun0_A.sl.HS2_17
  simp (disch := decide) only [↓ View.readCov_skip, ↓ View.readCov_cons_toLoadRect, ↓ View.readCov_fill, View.readAt_eq_ld, Memref.IsWhole.read_unread, shapeCast_self, k0_pay66, k0_pay67, k0_pay68, k0_pay70]
  rfl

/-- The weighted values after block 8. -/
theorem a_9 :
    (kernelRun0_A.sl.v456 c arg5 harg5 arg6 harg6 arg7 harg7 arg9 arg10 arg11 arg12 arg13 x2 x3 x4) =
      aStep (kernelRun0_A.sl.v395 c arg5 harg5 arg6 harg6 arg9 arg12 x2 x3) (kernelRun0_A.sl.v396 c arg5 harg5 arg6 harg6 arg9 arg10 arg12 arg13 x2 x3) (vBlk x4 8) (kernelRun0_A.sl.v412 c arg5 harg5 arg6 harg6 arg7 harg7 arg9 arg10 arg11 arg12 arg13 x2 x3 x4) := by
  unfold kernelRun0_A.sl.v456 kernelRun0_A.sl.HS2_19 kernelRun0_A.sl.HS2_18 kernelRun0_A.sl.r_22
  simp (disch := decide) only [↓ View.readCov_skip, ↓ View.readCov_cons_toLoadRect, ↓ View.readCov_fill, View.readAt_eq_ld, Memref.IsWhole.read_unread, shapeCast_self, k0_pay73, k0_pay74, k0_pay75, k0_pay76, k0_pay77]
  rfl

/-- The sums of weights after block 8. -/
theorem b_9 :
    (kernelRun0_A.sl.v463 c arg5 harg5 arg6 harg6 arg7 harg7 arg9 arg10 arg11 arg12 arg13 x2 x3 x4) =
      bStep (kernelRun0_A.sl.v395 c arg5 harg5 arg6 harg6 arg9 arg12 x2 x3) (kernelRun0_A.sl.v396 c arg5 harg5 arg6 harg6 arg9 arg10 arg12 arg13 x2 x3) (vBlk x4 8) (kernelRun0_A.sl.v419 c arg5 harg5 arg6 harg6 arg7 harg7 arg9 arg10 arg11 arg12 arg13 x2 x3 x4) := by
  unfold kernelRun0_A.sl.v463 kernelRun0_A.sl.HS2_20 kernelRun0_A.sl.HS2_19 kernelRun0_A.sl.r_20 kernelRun0_A.sl.r_21
  simp (disch := decide) only [↓ View.readCov_skip, ↓ View.readCov_cons_toLoadRect, ↓ View.readCov_fill, View.readAt_eq_ld, Memref.IsWhole.read_unread, shapeCast_self, k0_pay73, k0_pay74, k0_pay75, k0_pay78]
  rfl

/-- The weighted values after block 9. -/
theorem a_10 :
    (kernelRun0_A.sl.v491 c arg5 harg5 arg6 harg6 arg7 harg7 arg9 arg10 arg11 arg12 arg13 x2 x3 x4) =
      aStep (kernelRun0_A.sl.v439 c arg5 harg5 arg6 harg6 arg9 arg13 x2 x3) (kernelRun0_A.sl.v440 c arg5 harg5 arg6 harg6 arg9 arg10 arg12 arg13 x2 x3) (vBlk x4 9) (kernelRun0_A.sl.v456 c arg5 harg5 arg6 harg6 arg7 harg7 arg9 arg10 arg11 arg12 arg13 x2 x3 x4) := by
  unfold kernelRun0_A.sl.v491 kernelRun0_A.sl.HS2_21 kernelRun0_A.sl.HS2_20 kernelRun0_A.sl.r_24 kernelRun0_A.sl.r_25
  simp (disch := decide) only [↓ View.readCov_skip, ↓ View.readCov_cons_toLoadRect, ↓ View.readCov_fill, View.readAt_eq_ld, Memref.IsWhole.read_unread, shapeCast_self, k0_pay81, k0_pay82, k0_pay83, k0_pay84, k0_pay85]
  rfl

/-- The sums of weights after block 9. -/
theorem b_10 :
    (kernelRun0_A.sl.v498 c arg5 harg5 arg6 harg6 arg7 harg7 arg9 arg10 arg11 arg12 arg13 x2 x3 x4) =
      bStep (kernelRun0_A.sl.v439 c arg5 harg5 arg6 harg6 arg9 arg13 x2 x3) (kernelRun0_A.sl.v440 c arg5 harg5 arg6 harg6 arg9 arg10 arg12 arg13 x2 x3) (vBlk x4 9) (kernelRun0_A.sl.v463 c arg5 harg5 arg6 harg6 arg7 harg7 arg9 arg10 arg11 arg12 arg13 x2 x3 x4) := by
  unfold kernelRun0_A.sl.v498 kernelRun0_A.sl.HS2_22 kernelRun0_A.sl.HS2_21 kernelRun0_A.sl.r_24 kernelRun0_A.sl.r_25
  simp (disch := decide) only [↓ View.readCov_skip, ↓ View.readCov_cons_toLoadRect, ↓ View.readCov_fill, View.readAt_eq_ld, Memref.IsWhole.read_unread, shapeCast_self, k0_pay81, k0_pay82, k0_pay83, k0_pay84, k0_pay86]
  rfl

/-- The weighted values after block 10. -/
theorem a_11 :
    (kernelRun0_A.sl.v508 c arg5 harg5 arg6 harg6 arg7 harg7 arg9 arg10 arg11 arg12 arg13 x2 x3 x4) =
      aStep (kernelRun0_A.sl.v474 c arg5 harg5 arg6 harg6 arg9 arg12 x2 x3) (kernelRun0_A.sl.v475 c arg5 harg5 arg6 harg6 arg9 arg10 arg12 arg13 x2 x3) (vBlk x4 10) (kernelRun0_A.sl.v491 c arg5 harg5 arg6 harg6 arg7 harg7 arg9 arg10 arg11 arg12 arg13 x2 x3 x4) := by
  unfold kernelRun0_A.sl.v508 kernelRun0_A.sl.HS2_23 kernelRun0_A.sl.HS2_22 kernelRun0_A.sl.r_27 kernelRun0_A.sl.r_28 kernelRun0_A.sl.r_29
  simp (disch := decide) only [↓ View.readCov_skip, ↓ View.readCov_cons_toLoadRect, ↓ View.readCov_fill, View.readAt_eq_ld, Memref.IsWhole.read_unread, shapeCast_self, k0_pay88, k0_pay89, k0_pay90, k0_pay91, k0_pay92, k0_pay93]
  rfl

/-- The sums of weights after block 10. -/
theorem b_11 :
    (kernelRun0_A.sl.v509 c arg5 harg5 arg6 harg6 arg7 harg7 arg9 arg10 arg11 arg12 arg13 x2 x3 x4) =
      bStep (kernelRun0_A.sl.v474 c arg5 harg5 arg6 harg6 arg9 arg12 x2 x3) (kernelRun0_A.sl.v475 c arg5 harg5 arg6 harg6 arg9 arg10 arg12 arg13 x2 x3) (vBlk x4 10) (kernelRun0_A.sl.v498 c arg5 harg5 arg6 harg6 arg7 harg7 arg9 arg10 arg11 arg12 arg13 x2 x3 x4) := by
  unfold kernelRun0_A.sl.v509 kernelRun0_A.sl.HS2_23 kernelRun0_A.sl.r_27 kernelRun0_A.sl.r_28 kernelRun0_A.sl.r_29
  simp (disch := decide) only [↓ View.readCov_skip, ↓ View.readCov_cons_toLoadRect, ↓ View.readCov_fill, View.readAt_eq_ld, Memref.IsWhole.read_unread, shapeCast_self, k0_pay88, k0_pay89, k0_pay90, k0_pay91, k0_pay92, k0_pay94]
  rfl

/-- The doubled query tile: the query's first 64 lanes in the upper rows, its last 64 in the lower ones, zero elsewhere. -/
def qzOf (q : Vec F S1x512x128 .bf16) : FVec F S1024x128 .bf16 := fun i =>
  if h : (i 0).val < 512 then k0_pay4 q (ValueIdx.ix2 ⟨(i 0).val, h⟩ (i 1))
  else k0_pay5 q (ValueIdx.ix2 ⟨(i 0).val - 512, by have := (i 0).isLt; have : (i 0).val < 1024 := this; omega⟩ (i 1))

/-- The run's query scratch holds the doubled query tile. -/
theorem qz_eq : (kernelRun0_A.sl.v25 c arg5 harg5 arg9 x2) = qzOf x2 := by
  unfold kernelRun0_A.sl.v25 kernelRun0_A.sl.HS0_2
  simp (disch := decide) only [View.readAt_eq_ld, Memref.IsWhole.read_unread, View.ld_unit_lit]
  rw [View.readCov_eq_canon']
  funext j
  have hj : (Rect.unit ![0, 0] S1024x128.size inb_S1024x128_S1024x128_0_0).toLoadRect.idx j = j := by
    funext a; fin_cases a <;> exact Fin.ext (by simp [Rect.toLoadRect, LoadRect.idx])
  rw [hj]
  unfold qzOf
  split
  · rename_i h
    rw [View.canon_cons_of_not_mem _ _ (by
      rw [Rect.mem_set_unit]; intro hm; have := (hm 0).1; have : 512 ≤ (j 0).val := this; omega)]
    have e : j = (Rect.unit (s := S1024x128) ![0, 0] S512x128.size inb_S1024x128_S512x128_0_0).emb
        (ValueIdx.ix2 ⟨(j 0).val, h⟩ (j 1)) := by
      funext a; fin_cases a <;> exact Fin.ext (by simp [LoadRect.idx, ValueIdx.ix2])
    conv_lhs => rw [e]
    exact View.canon_cons_emb _ _ _ _
  · rename_i h
    have h1 : (j 0).val < 1024 := (j 0).isLt
    have e : j = (Rect.unit (s := S1024x128) ![512, 0] S512x128.size inb_S1024x128_S512x128_512_0).emb
        (ValueIdx.ix2 ⟨(j 0).val - 512, by omega⟩ (j 1)) := by
      funext a; fin_cases a <;> exact Fin.ext (by simp [LoadRect.idx, ValueIdx.ix2]; try omega)
    conv_lhs => rw [e]
    exact View.canon_cons_emb _ _ _ _

/-- What the body leaves in its output block. -/
theorem out_eq : out0_A_5 c i arg3 harg3 arg4 harg4 arg5 harg5 arg6 harg6 arg7 harg7 arg8 harg8 arg9 harg9 arg10 harg10 arg11 harg11 arg12 harg12 arg13 harg13 x0 x1 x2 x3 x4 = k0_pay1 (k0_pay96 (kernelRun0_A.sl.v508 c arg5 harg5 arg6 harg6 arg7 harg7 arg9 arg10 arg11 arg12 arg13 x2 x3 x4) (kernelRun0_A.sl.v509 c arg5 harg5 arg6 harg6 arg7 harg7 arg9 arg10 arg11 arg12 arg13 x2 x3 x4)) (k0_pay97 x0) (k0_pay98 (F := F)) x1 := by
  unfold out0_A_5
  rw [View.read_writes_junk_eq_canon]
  unfold kernelRun0_A
  dsimp only
  rw [View.canon_unit_zero (by funext a; fin_cases a <;> rfl)]
  unfold kernelRun0_A.sl.r_30 kernelRun0_A.sl.r_31
  simp (disch := decide) only [View.readAt_eq_ld, Memref.IsWhole.read_unread, View.ld_unit_lit]

end Cert.KernelIdeal.Attn

end
-- ==== Proof.Attn.Math.lean ====
/-
  The attention of one query in real numbers: the softmax weighted mean, and what no shift of the scores changes.
-/
module

public import Idealize.ShloMosaic.PureOps.Ideal
public import Idealize.ShloMosaic.PureOps.Ideal.Laws

@[expose] public section

noncomputable section

namespace Cert.Attn

open Idealize.ShloMosaic

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The softmax weighted mean of `v` under the scores `s`. -/
def att (s v : Fin 8448 → ℝ) : ℝ := (∑ k, Real.exp (s k) * v k) / ∑ k, Real.exp (s k)

theorem sum_exp_pos (s : Fin 8448 → ℝ) : 0 < ∑ k, Real.exp (s k) :=
  Finset.sum_pos (fun k _ => Real.exp_pos _) ⟨0, Finset.mem_univ _⟩

/-- One softmax weight among the extended reals, the scores shifted by a real. -/
theorem weight (s : Fin 8448 → ℝ) (μ : ℝ) (k : Fin 8448) :
    Ideal.div (Ideal.exp ((s k : EReal) - (μ : EReal))) (∑ j, Ideal.exp ((s j : EReal) - (μ : EReal))) =
      ((Real.exp (s k) / ∑ j, Real.exp (s j) : ℝ) : EReal) := by
  have h : ∀ j, Ideal.exp ((s j : EReal) - (μ : EReal)) = ((Real.exp (s j) * Real.exp (-μ) : ℝ) : EReal) := fun j => by
    rw [← EReal.coe_sub, Ideal.exp_coe, ← Real.exp_add, sub_eq_add_neg]
  simp only [h]
  rw [← coe_sum, ← Finset.sum_mul]
  have hp := sum_exp_pos s
  have he := Real.exp_pos (-μ)
  rw [Ideal.div_coe (mul_pos hp he).ne', ← EReal.coe_mul]
  congr 1
  field_simp

/-- The weights of two maps, the second times `c`, then the values: the difference of the two means. -/
theorem diff_att (s t v : Fin 8448 → ℝ) (c : ℝ) :
    ∑ k, (Real.exp (s k) / (∑ j, Real.exp (s j)) - c * (Real.exp (t k) / ∑ j, Real.exp (t j))) * v k = att s v - c * att t v := by
  unfold att
  rw [Finset.sum_div, Finset.sum_div, Finset.mul_sum, ← Finset.sum_sub_distrib]
  refine Finset.sum_congr rfl fun k _ => ?_
  ring

/-- The norm of one head and the factor after it. -/
def normed (d : Fin 128 → EReal) (g : EReal) (l : Fin 128) : EReal :=
  d l * Ideal.rsqrt (Ideal.div (∑ x, d x * d x) (Ideal.ofBits .f32 1124073472#32) + Ideal.ofBits .f32 897988541#32) * g *
    Ideal.ofBits .f32 1061997773#32

/-- Lambda, from its four vectors. -/
def lamOf (a b c d : Fin 64 → EReal) : EReal :=
  Ideal.exp (∑ x, a x * b x) - Ideal.exp (∑ x, c x * d x) + Ideal.ofBits .f32 1045220557#32

/-- Lambda of finite vectors is finite. -/
theorem lamOf_real {a b c d : Fin 64 → EReal} {a' b' c' d' : Fin 64 → ℝ} (ha : ∀ x, a x = a' x) (hb : ∀ x, b x = b' x)
    (hc : ∀ x, c x = c' x) (hd : ∀ x, d x = d' x) : ∃ μ : ℝ, lamOf a b c d = μ := by
  have h0 : ∃ e : ℝ, Ideal.ofBits .f32 1045220557#32 = (e : EReal) := by
    simp [Ideal.ofBits, Ideal.ieee, -EReal.coe_mul]
  obtain ⟨e, he⟩ := h0
  have hab : (∑ x, a x * b x) = ((∑ x, a' x * b' x : ℝ) : EReal) := by
    rw [coe_sum]; exact Finset.sum_congr rfl fun x _ => by rw [ha, hb, EReal.coe_mul]
  have hcd : (∑ x, c x * d x) = ((∑ x, c' x * d' x : ℝ) : EReal) := by
    rw [coe_sum]; exact Finset.sum_congr rfl fun x _ => by rw [hc, hd, EReal.coe_mul]
  refine ⟨Real.exp (∑ x, a' x * b' x) - Real.exp (∑ x, c' x * d' x) + e, ?_⟩
  unfold lamOf
  rw [hab, hcd, he, Ideal.exp_coe, Ideal.exp_coe, EReal.coe_add, EReal.coe_sub]

/-- A value below ⊤ in absolute terms is a real. -/
theorem real_of_abs_lt {x : EReal} (h : x ≠ ⊤) (h' : x ≠ ⊥) : x = (x.toReal : EReal) := (EReal.coe_toReal h h').symm

end Cert.Attn

end
-- ==== Proof.Attn.Row.lean ====
/-
  The online softmax of one query row. Over the reals the running maximum is only a shift: after every block of keys the
  accumulators hold the weighted sums of the keys seen so far, the weights 2 to the score less the shift.
-/
module

public import proofs.«01_k».proof.Proof.Attn.Step
public import proofs.«01_k».proof.Proof.Attn.Math
public import Idealize.ShloMosaic.Lib.Pointwise

@[expose] public section

set_option maxRecDepth 16384

noncomputable section

namespace Cert.KernelIdeal.Attn

open Cert.KernelIdeal Cert.KernelIdeal.Gen Idealize.ShloMosaic Cert.Attn

/-- The greatest of a real and finitely many reals is a real. -/
theorem max_real {n : ℕ} (x : ℝ) (f : Fin n → ℝ) :
    ∃ μ : ℝ, max (x : EReal) (Finset.fold max (Ideal.ofBits .f32 4286578688#32) (fun i => (f i : EReal)) Finset.univ) = μ := by
  have hb : Ideal.ofBits .f32 4286578688#32 = ⊥ := by simp [Ideal.ofBits, Ideal.ieee]
  rw [hb]
  have h1 : Finset.fold max (⊥ : EReal) (fun i => (f i : EReal)) Finset.univ < ⊤ := by
    rw [Finset.fold_max_lt]
    exact ⟨bot_lt_top, fun i _ => EReal.coe_lt_top _⟩
  have h2 : max (x : EReal) (Finset.fold max (⊥ : EReal) (fun i => (f i : EReal)) Finset.univ) ≠ ⊤ :=
    (max_lt (EReal.coe_lt_top x) h1).ne
  have h3 : max (x : EReal) (Finset.fold max (⊥ : EReal) (fun i => (f i : EReal)) Finset.univ) ≠ ⊥ :=
    ((EReal.bot_lt_coe x).trans_le (le_max_left _ _)).ne'
  exact ⟨_, (EReal.coe_toReal h2 h3).symm⟩

/-- The weighted sum over the first `n` keys, the weights shifted by `μ`. -/
def wsum (n : ℕ) (S V : ℕ → ℝ) (μ : ℝ) : ℝ := ∑ k ∈ Finset.range n, (2 : ℝ) ^ (S k - μ) * V k

/-- A shift of the weights is a factor. -/
theorem wsum_shift (n : ℕ) (S V : ℕ → ℝ) (μ : ℝ) : wsum n S V μ = (2 : ℝ) ^ (-μ) * wsum n S V 0 := by
  unfold wsum
  rw [Finset.mul_sum]
  refine Finset.sum_congr rfl fun k _ => ?_
  rw [← mul_assoc, ← Real.rpow_add (by norm_num)]
  congr 2; ring

/-- One block more: the old sum rescaled to the new shift plus the block's weights times its values. -/
theorem wsum_step (n t : ℕ) (S V : ℕ → ℝ) (μ ν : ℝ) :
    wsum (n + t) S V ν = (2 : ℝ) ^ (μ - ν) * wsum n S V μ + ∑ k : Fin t, (2 : ℝ) ^ (S (n + k) - ν) * V (n + k) := by
  rw [wsum_shift n S V μ, ← mul_assoc, ← Real.rpow_add (by norm_num),
    show μ - ν + -μ = -ν by ring, ← wsum_shift n S V ν, Finset.sum_range (f := fun k => (2 : ℝ) ^ (S (n + k) - ν) * V (n + k)).symm]
  unfold wsum
  rw [Finset.sum_range_add]

/-- What the scratch holds after `n` keys: in every row a real shift on all lanes, and the two weighted sums. -/
def Inv (n : ℕ) (S : Fin 1024 → ℕ → ℝ) (V W : Fin 128 → ℕ → ℝ) (m a b : FVec Ideal S1024x128 .f32) : Prop :=
  ∀ r : Fin 1024, ∃ μ : ℝ, ∀ l : Fin 128, m (ix2 r l) = (μ : EReal) ∧ a (ix2 r l) = ((wsum n (S r) (V l) μ : ℝ) : EReal)
    ∧ b (ix2 r l) = ((wsum n (S r) (W l) μ : ℝ) : EReal)

/-- The scratch as the body fills it: no key seen. -/
theorem inv_zero (S : Fin 1024 → ℕ → ℝ) (V W : Fin 128 → ℕ → ℝ) :
    Inv 0 S V W (broadcast S1024x128 (Scalar.ofBits .f32 0xF149F2CA#32)) (broadcast S1024x128 (Scalar.ofBits .f32 0x00000000#32))
      (broadcast S1024x128 (Scalar.ofBits .f32 0x00000000#32)) := by
  intro r
  have h1 : ∃ μ : ℝ, Ideal.ofBits .f32 0xF149F2CA#32 = (μ : EReal) := by
    simp [Ideal.ofBits, Ideal.ieee, -EReal.coe_mul]
    exact ⟨_, rfl⟩
  have h0 : Ideal.ofBits .f32 0x00000000#32 = ((0 : ℝ) : EReal) := by simp [Ideal.ofBits, Ideal.ieee]
  obtain ⟨μ, hμ⟩ := h1
  refine ⟨μ, fun l => ⟨hμ, ?_, ?_⟩⟩ <;> · simp only [wsum, Finset.range_zero, Finset.sum_empty]; exact h0

theorem mStep_apply (s : FVec Ideal S1024x768 .f32) (m : FVec Ideal S1024x128 .f32) (r : Fin 1024) (l : Fin 128) :
    mStep s m (ix2 r l) = max (m (ix2 r l)) (Finset.fold max (Ideal.ofBits FTy.f32 4286578688#32) (fun x => s (ix2 r x)) Finset.univ) := by
  pointwise [mStep]

theorem aStep_apply (s : FVec Ideal S1024x768 .f32) (m a : FVec Ideal S1024x128 .f32) (vb : Vec Ideal S1x768x256 .bf16) (r : Fin 1024) (l : Fin 128) :
    aStep s m vb a (ix2 r l) = Ideal.exp2 (m (ix2 r l) - mStep s m (ix2 r l)) * a (ix2 r l) +
      ∑ x : Fin 768, Ideal.exp2 (s (ix2 r x) - mStep s m (ix2 r 0)) * vb (ix3 0 x ⟨l, by omega⟩) := by
  pointwise [aStep, pvStep]
  rfl

theorem bStep_apply (s : FVec Ideal S1024x768 .f32) (m b : FVec Ideal S1024x128 .f32) (vb : Vec Ideal S1x768x256 .bf16) (r : Fin 1024) (l : Fin 128) :
    bStep s m vb b (ix2 r l) = Ideal.exp2 (m (ix2 r l) - mStep s m (ix2 r l)) * b (ix2 r l) +
      ∑ x : Fin 768, Ideal.exp2 (s (ix2 r x) - mStep s m (ix2 r 0)) * vb (ix3 0 x ⟨128 + l, by omega⟩) := by
  pointwise [bStep, pvStep]
  rfl

/-- The new accumulator entry, in reals. -/
theorem acc_step (n : ℕ) (S V : ℕ → ℝ) (μ ν : ℝ) (s v : Fin 768 → EReal) (hs : ∀ k, s k = (S (n + k) : EReal))
    (hv : ∀ k, v k = (V (n + k) : EReal)) :
    Ideal.exp2 ((μ : EReal) - (ν : EReal)) * ((wsum n S V μ : ℝ) : EReal) + ∑ x, Ideal.exp2 (s x - (ν : EReal)) * v x =
      ((wsum (n + 768) S V ν : ℝ) : EReal) := by
  rw [wsum_step n 768 S V μ ν, EReal.coe_add, EReal.coe_mul, coe_sum]
  congr 1
  refine Finset.sum_congr rfl fun k _ => ?_
  rw [hs, hv, EReal.coe_mul]
  rfl

/-- A block of keys keeps the invariant. -/
theorem inv_step {n : ℕ} {S : Fin 1024 → ℕ → ℝ} {V W : Fin 128 → ℕ → ℝ} {m a b : FVec Ideal S1024x128 .f32} (h : Inv n S V W m a b)
    {s : FVec Ideal S1024x768 .f32} {vb : Vec Ideal S1x768x256 .bf16}
    (hs : ∀ r (k : Fin 768), s (ix2 r k) = (S r (n + k) : EReal))
    (hv : ∀ (k : Fin 768) (l : Fin 128), vb (ix3 0 k ⟨l, by omega⟩) = (V l (n + k) : EReal))
    (hw : ∀ (k : Fin 768) (l : Fin 128), vb (ix3 0 k ⟨128 + l, by omega⟩) = (W l (n + k) : EReal)) :
    Inv (n + 768) S V W (mStep s m) (aStep s m vb a) (bStep s m vb b) := by
  intro r
  obtain ⟨μ, hμ⟩ := h r
  obtain ⟨ν, hν⟩ := max_real μ (fun k : Fin 768 => S r (n + k))
  have hm : ∀ l, mStep s m (ix2 r l) = (ν : EReal) := fun l => by
    rw [mStep_apply, (hμ l).1, ← hν]
    simp only [hs]
  refine ⟨ν, fun l => ⟨hm l, ?_, ?_⟩⟩
  · rw [aStep_apply, hm, hm, (hμ l).1, (hμ l).2.1]
    exact acc_step n (S r) (V l) μ ν _ _ (hs r) (fun k => hv k l)
  · rw [bStep_apply, hm, hm, (hμ l).1, (hμ l).2.2]
    exact acc_step n (S r) (W l) μ ν _ _ (hs r) (fun k => hw k l)

end Cert.KernelIdeal.Attn

end
-- ==== Proof.Attn.Tile.lean ====
/-
  The attention body's accumulators after the last key block, in reals, and what the body stores: each row's two softmax
  means, their difference with lambda, normed.
-/
module

public import proofs.«01_k».proof.Proof.Attn.Words
public import proofs.«01_k».proof.Proof.Attn.Row

@[expose] public section

set_option maxRecDepth 16384

noncomputable section

namespace Cert.KernelIdeal.Attn

open Cert.KernelIdeal Cert.KernelIdeal.Gen Idealize.ShloMosaic Cert.Attn

variable (c : Dev nD) (i : grid0.Coords) (arg3 : Memref sig .tc .vmem S8x128 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x8448x128 .bf16) (harg6 : arg6.IsWhole) (arg7 : Memref sig .tc .vmem S1x8448x256 .bf16) (harg7 : arg7.IsWhole) (arg8 : Memref sig .tc .vmem S1x512x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x768 .f32) (harg12 : arg12.IsWhole) (arg13 : Memref sig .tc .vmem S1024x768 .f32) (harg13 : arg13.IsWhole)
  (x0 : Vec Ideal S8x128 .f32) (x1 : Vec Ideal S1x128 .f32) (x2 : Vec Ideal S1x512x128 .bf16) (x3 : Vec Ideal S1x8448x128 .bf16) (x4 : Vec Ideal S1x8448x256 .bf16)

/-- Key block `j` at a row. -/
theorem kBlk_apply (j : Fin 11) (k : Fin 768) (d : Fin 128) : kBlk x3 j (ix3 0 k d) = x3 (ix3 0 ⟨768 * j + k, by omega⟩ d) := by
  pointwise [kBlk]

theorem vBlk_apply (j : Fin 11) (k : Fin 768) (d : Fin 256) : vBlk x4 j (ix3 0 k d) = x4 (ix3 0 ⟨768 * j + k, by omega⟩ d) := by
  pointwise [vBlk]

theorem scoresOf_apply (qz : FVec Ideal S1024x128 .bf16) (kb : Vec Ideal S1x768x128 .bf16) (r : Fin 1024) (k : Fin 768) :
    scoresOf qz kb (ix2 r k) = ∑ x : Fin 128, qz (ix2 r x) * kb (ix3 0 k x) := by
  pointwise [scoresOf]

/-- The accumulators after `n` blocks. -/
theorem acc_inv {S : Fin 1024 → ℕ → ℝ} {V W : Fin 128 → ℕ → ℝ}
    (hS : ∀ (j : Fin 11) r (k : Fin 768), scoresOf (qzOf x2) (kBlk x3 j) (ix2 r k) = (S r (768 * j + k) : EReal))
    (hV : ∀ (j : Fin 11) (k : Fin 768) (l : Fin 128), vBlk x4 j (ix3 0 k ⟨l, by omega⟩) = (V l (768 * j + k) : EReal))
    (hW : ∀ (j : Fin 11) (k : Fin 768) (l : Fin 128), vBlk x4 j (ix3 0 k ⟨128 + l, by omega⟩) = (W l (768 * j + k) : EReal)) :
    ∃ m, Inv 8448 S V W m (kernelRun0_A.sl.v508 c arg5 harg5 arg6 harg6 arg7 harg7 arg9 arg10 arg11 arg12 arg13 x2 x3 x4) (kernelRun0_A.sl.v509 c arg5 harg5 arg6 harg6 arg7 harg7 arg9 arg10 arg11 arg12 arg13 x2 x3 x4) := by
  have h0 := inv_zero S V W

  have k0 : Inv 0 S V W (kernelRun0_A.sl.v44 (F := Ideal) c arg10) (kernelRun0_A.sl.v60 (F := Ideal) c arg11) (kernelRun0_A.sl.v67 (F := Ideal) c arg5 harg5 arg6 harg6 arg7 harg7 arg9 arg10 arg11 arg12 x2 x3 x4) := by
    rw [m_0, a_0, b_0]; exact h0

  have k1 : Inv 768 S V W (kernelRun0_A.sl.v88 (F := Ideal) c arg5 harg5 arg6 harg6 arg9 arg10 arg12 x2 x3) (kernelRun0_A.sl.v104 (F := Ideal) c arg5 harg5 arg6 harg6 arg7 harg7 arg9 arg10 arg11 arg12 x2 x3 x4) (kernelRun0_A.sl.v111 (F := Ideal) c arg5 harg5 arg6 harg6 arg7 harg7 arg9 arg10 arg11 arg12 arg13 x2 x3 x4) := by
    rw [m_1, a_1, b_1]
    exact inv_step k0 (fun r k => by rw [s_0, qz_eq]; exact hS 0 r k) (hV 0) (hW 0)

  have k2 : Inv 1536 S V W (kernelRun0_A.sl.v132 (F := Ideal) c arg5 harg5 arg6 harg6 arg9 arg10 arg12 arg13 x2 x3) (kernelRun0_A.sl.v148 (F := Ideal) c arg5 harg5 arg6 harg6 arg7 harg7 arg9 arg10 arg11 arg12 arg13 x2 x3 x4) (kernelRun0_A.sl.v155 (F := Ideal) c arg5 harg5 arg6 harg6 arg7 harg7 arg9 arg10 arg11 arg12 arg13 x2 x3 x4) := by
    rw [m_2, a_2, b_2]
    exact inv_step k1 (fun r k => by rw [s_1, qz_eq]; exact hS 1 r k) (hV 1) (hW 1)

  have k3 : Inv 2304 S V W (kernelRun0_A.sl.v176 (F := Ideal) c arg5 harg5 arg6 harg6 arg9 arg10 arg12 arg13 x2 x3) (kernelRun0_A.sl.v192 (F := Ideal) c arg5 harg5 arg6 harg6 arg7 harg7 arg9 arg10 arg11 arg12 arg13 x2 x3 x4) (kernelRun0_A.sl.v199 (F := Ideal) c arg5 harg5 arg6 harg6 arg7 harg7 arg9 arg10 arg11 arg12 arg13 x2 x3 x4) := by
    rw [m_3, a_3, b_3]
    exact inv_step k2 (fun r k => by rw [s_2, qz_eq]; exact hS 2 r k) (hV 2) (hW 2)

  have k4 : Inv 3072 S V W (kernelRun0_A.sl.v220 (F := Ideal) c arg5 harg5 arg6 harg6 arg9 arg10 arg12 arg13 x2 x3) (kernelRun0_A.sl.v236 (F := Ideal) c arg5 harg5 arg6 harg6 arg7 harg7 arg9 arg10 arg11 arg12 arg13 x2 x3 x4) (kernelRun0_A.sl.v243 (F := Ideal) c arg5 harg5 arg6 harg6 arg7 harg7 arg9 arg10 arg11 arg12 arg13 x2 x3 x4) := by
    rw [m_4, a_4, b_4]
    exact inv_step k3 (fun r k => by rw [s_3, qz_eq]; exact hS 3 r k) (hV 3) (hW 3)

  have k5 : Inv 3840 S V W (kernelRun0_A.sl.v264 (F := Ideal) c arg5 harg5 arg6 harg6 arg9 arg10 arg12 arg13 x2 x3) (kernelRun0_A.sl.v280 (F := Ideal) c arg5 harg5 arg6 harg6 arg7 harg7 arg9 arg10 arg11 arg12 arg13 x2 x3 x4) (kernelRun0_A.sl.v287 (F := Ideal) c arg5 harg5 arg6 harg6 arg7 harg7 arg9 arg10 arg11 arg12 arg13 x2 x3 x4) := by
    rw [m_5, a_5, b_5]
    exact inv_step k4 (fun r k => by rw [s_4, qz_eq]; exact hS 4 r k) (hV 4) (hW 4)

  have k6 : Inv 4608 S V W (kernelRun0_A.sl.v308 (F := Ideal) c arg5 harg5 arg6 harg6 arg9 arg10 arg12 arg13 x2 x3) (kernelRun0_A.sl.v324 (F := Ideal) c arg5 harg5 arg6 harg6 arg7 harg7 arg9 arg10 arg11 arg12 arg13 x2 x3 x4) (kernelRun0_A.sl.v331 (F := Ideal) c arg5 harg5 arg6 harg6 arg7 harg7 arg9 arg10 arg11 arg12 arg13 x2 x3 x4) := by
    rw [m_6, a_6, b_6]
    exact inv_step k5 (fun r k => by rw [s_5, qz_eq]; exact hS 5 r k) (hV 5) (hW 5)

  have k7 : Inv 5376 S V W (kernelRun0_A.sl.v352 (F := Ideal) c arg5 harg5 arg6 harg6 arg9 arg10 arg12 arg13 x2 x3) (kernelRun0_A.sl.v368 (F := Ideal) c arg5 harg5 arg6 harg6 arg7 harg7 arg9 arg10 arg11 arg12 arg13 x2 x3 x4) (kernelRun0_A.sl.v375 (F := Ideal) c arg5 harg5 arg6 harg6 arg7 harg7 arg9 arg10 arg11 arg12 arg13 x2 x3 x4) := by
    rw [m_7, a_7, b_7]
    exact inv_step k6 (fun r k => by rw [s_6, qz_eq]; exact hS 6 r k) (hV 6) (hW 6)

  have k8 : Inv 6144 S V W (kernelRun0_A.sl.v396 (F := Ideal) c arg5 harg5 arg6 harg6 arg9 arg10 arg12 arg13 x2 x3) (kernelRun0_A.sl.v412 (F := Ideal) c arg5 harg5 arg6 harg6 arg7 harg7 arg9 arg10 arg11 arg12 arg13 x2 x3 x4) (kernelRun0_A.sl.v419 (F := Ideal) c arg5 harg5 arg6 harg6 arg7 harg7 arg9 arg10 arg11 arg12 arg13 x2 x3 x4) := by
    rw [m_8, a_8, b_8]
    exact inv_step k7 (fun r k => by rw [s_7, qz_eq]; exact hS 7 r k) (hV 7) (hW 7)

  have k9 : Inv 6912 S V W (kernelRun0_A.sl.v440 (F := Ideal) c arg5 harg5 arg6 harg6 arg9 arg10 arg12 arg13 x2 x3) (kernelRun0_A.sl.v456 (F := Ideal) c arg5 harg5 arg6 harg6 arg7 harg7 arg9 arg10 arg11 arg12 arg13 x2 x3 x4) (kernelRun0_A.sl.v463 (F := Ideal) c arg5 harg5 arg6 harg6 arg7 harg7 arg9 arg10 arg11 arg12 arg13 x2 x3 x4) := by
    rw [m_9, a_9, b_9]
    exact inv_step k8 (fun r k => by rw [s_8, qz_eq]; exact hS 8 r k) (hV 8) (hW 8)

  have k10 : Inv 7680 S V W (kernelRun0_A.sl.v475 (F := Ideal) c arg5 harg5 arg6 harg6 arg9 arg10 arg12 arg13 x2 x3) (kernelRun0_A.sl.v491 (F := Ideal) c arg5 harg5 arg6 harg6 arg7 harg7 arg9 arg10 arg11 arg12 arg13 x2 x3 x4) (kernelRun0_A.sl.v498 (F := Ideal) c arg5 harg5 arg6 harg6 arg7 harg7 arg9 arg10 arg11 arg12 arg13 x2 x3 x4) := by
    rw [m_10, a_10, b_10]
    exact inv_step k9 (fun r k => by rw [s_9, qz_eq]; exact hS 9 r k) (hV 9) (hW 9)

  refine ⟨mStep (kernelRun0_A.sl.v474 c arg5 harg5 arg6 harg6 arg9 arg12 x2 x3) (kernelRun0_A.sl.v475 (F := Ideal) c arg5 harg5 arg6 harg6 arg9 arg10 arg12 arg13 x2 x3), ?_⟩
  rw [a_11, b_11]
  exact inv_step k10 (fun r k => by rw [s_10, qz_eq]; exact hS 10 r k) (hV 10) (hW 10)

theorem lt_word (d : Fin 128) : IntOp.cmpi .slt (BitVec.ofNat 32 d.val) 64#32 = if d.val < 64 then 1#1 else 0#1 := by
  revert d; decide +kernel

theorem ge_word (d : Fin 128) : IntOp.cmpi .sge (BitVec.ofNat 32 d.val) 64#32 = if d.val < 64 then 0#1 else 1#1 := by
  revert d; decide +kernel

theorem pay4_apply (q : Vec Ideal S1x512x128 .bf16) (r : Fin 512) (d : Fin 128) :
    k0_pay4 q (ix2 r d) = if d.val < 64 then q (ix3 0 r d) else 0 := by
  have h : k0_pay4 q (ix2 r d) = Scalar.select (IntOp.cmpi CmpIPredicate.slt (BitVec.ofNat 32 d.val) 64#32) (q (ix3 0 r d)) 0 := by
    pointwise [k0_pay4, k0_pay2, k0_pay3]
  rw [h, lt_word]
  split <;> rfl

theorem pay5_apply (q : Vec Ideal S1x512x128 .bf16) (r : Fin 512) (d : Fin 128) :
    k0_pay5 q (ix2 r d) = if d.val < 64 then 0 else q (ix3 0 r d) := by
  have h : k0_pay5 q (ix2 r d) = Scalar.select (IntOp.cmpi CmpIPredicate.sge (BitVec.ofNat 32 d.val) 64#32) (q (ix3 0 r d)) 0 := by
    pointwise [k0_pay5, k0_pay2, k0_pay3]
  rw [h, ge_word]
  split <;> rfl

theorem qzOf_lo (q : Vec Ideal S1x512x128 .bf16) (r : Fin 512) (d : Fin 128) :
    qzOf q (ix2 ⟨r.val, by omega⟩ d) = if d.val < 64 then q (ix3 0 r d) else 0 := by
  rw [← pay4_apply]
  exact dif_pos r.isLt

theorem qzOf_hi (q : Vec Ideal S1x512x128 .bf16) (r : Fin 512) (d : Fin 128) :
    qzOf q (ix2 ⟨512 + r.val, by omega⟩ d) = if d.val < 64 then 0 else q (ix3 0 r d) := by
  rw [← pay5_apply]
  have h : ¬ (512 + r.val < 512) := by omega
  refine (dif_neg h).trans ?_
  have e : (⟨512 + r.val - 512, by omega⟩ : Fin 512) = r := Fin.ext (by simp)
  show k0_pay5 q (ix2 ⟨512 + r.val - 512, _⟩ d) = _
  rw [e]

/-- The score of a query row and a key over one half of the lanes. -/
def halfDot (e : Fin 2) (q k : Fin 128 → ℝ) : ℝ := ∑ d : Fin 64, q ⟨64 * e.val + d.val, by omega⟩ * k ⟨64 * e.val + d.val, by omega⟩

theorem sum_lo (f : Fin 128 → EReal) (g k : Fin 128 → ℝ) (hf : ∀ d, f d = if d.val < 64 then (g d : EReal) else 0) :
    ∑ d, f d * (k d : EReal) = ((halfDot 0 g k : ℝ) : EReal) := by
  rw [Fin.sum_univ_two_halves 64 64 (by norm_num)]
  have h1 : ∀ d : Fin 64, f ⟨64 + d.val, by omega⟩ = 0 := fun d => by rw [hf, if_neg (by simp)]
  have h0 : ∀ d : Fin 64, f ⟨d.val, by omega⟩ = (g ⟨d.val, by omega⟩ : EReal) := fun d => by rw [hf, if_pos (by exact d.isLt)]
  simp only [h0, h1, zero_mul, Finset.sum_const_zero, add_zero]
  unfold halfDot
  rw [coe_sum]
  refine Finset.sum_congr rfl fun d _ => ?_
  rw [EReal.coe_mul]
  simp

theorem sum_hi (f : Fin 128 → EReal) (g k : Fin 128 → ℝ) (hf : ∀ d, f d = if d.val < 64 then 0 else (g d : EReal)) :
    ∑ d, f d * (k d : EReal) = ((halfDot 1 g k : ℝ) : EReal) := by
  rw [Fin.sum_univ_two_halves 64 64 (by norm_num)]
  have h1 : ∀ d : Fin 64, f ⟨64 + d.val, by omega⟩ = (g ⟨64 + d.val, by omega⟩ : EReal) := fun d => by rw [hf, if_neg (by simp)]
  have h0 : ∀ d : Fin 64, f ⟨d.val, by omega⟩ = 0 := fun d => by rw [hf, if_pos (by exact d.isLt)]
  simp only [h0, h1, zero_mul, Finset.sum_const_zero, zero_add]
  unfold halfDot
  rw [coe_sum]
  refine Finset.sum_congr rfl fun d _ => ?_
  rw [EReal.coe_mul]
  simp

theorem hi_row (r : Fin 1024) (h : 512 ≤ r.val) : ∃ r' : Fin 512, r = ⟨512 + r'.val, Nat.add_lt_add_left r'.isLt 512⟩ :=
  ⟨⟨r - 512, by omega⟩, Fin.ext (by simp; omega)⟩

/-- Scores over the natural numbers: nothing beyond the last key. -/
def onNat (f : Fin 8448 → ℝ) (n : ℕ) : ℝ := if h : n < 8448 then f ⟨n, h⟩ else 0

theorem onNat_lt (f : Fin 8448 → ℝ) (n : ℕ) (h : n < 8448) : onNat f n = f ⟨n, h⟩ := dif_pos h

/-- The quotient of the two accumulators is the softmax mean. -/
theorem quot (s v : Fin 8448 → ℝ) (μ : ℝ) :
    Ideal.div ((wsum 8448 (onNat s) (onNat v) μ : ℝ) : EReal) ((wsum 8448 (onNat s) (onNat fun _ => 1) μ : ℝ) : EReal) =
      ((att (fun k => Real.log 2 * s k) v : ℝ) : EReal) := by
  have key : ∀ u : Fin 8448 → ℝ, wsum 8448 (onNat s) (onNat u) μ = (2 : ℝ) ^ (-μ) * ∑ k, Real.exp (Real.log 2 * s k) * u k := fun u => by
    rw [wsum_shift]
    refine congrArg (fun z => (2 : ℝ) ^ (-μ) * z) ?_
    unfold wsum
    rw [Finset.sum_range]
    refine Finset.sum_congr rfl fun k _ => ?_
    rw [onNat_lt _ _ k.isLt, onNat_lt _ _ k.isLt, sub_zero, Real.rpow_def_of_pos (by norm_num)]
  have hp := sum_exp_pos (fun k => Real.log 2 * s k)
  have h2 : (0 : ℝ) < (2 : ℝ) ^ (-μ) := Real.rpow_pos_of_pos (by norm_num) _
  rw [key, key]
  simp only [mul_one]
  rw [Ideal.div_coe (mul_pos h2 hp).ne', ← EReal.coe_mul]
  unfold att
  refine congrArg _ ?_
  field_simp

/-- What the body stores, read at an element. -/
theorem store_apply (a b : FVec Ideal S1024x128 .f32) (lv : Vec Ideal S8x128 .f32) (g : Vec Ideal S1x128 .f32) (r : Fin 512) (l : Fin 128) :
    k0_pay1 (k0_pay96 a b) (k0_pay97 lv) (k0_pay98 (F := Ideal)) g (ix3 0 r l) =
      normed (fun x => Ideal.div (a (ix2 ⟨r, by omega⟩ x)) (b (ix2 ⟨r, by omega⟩ x)) -
        (Ideal.exp (∑ x, lv (ix2 0 x) * lv (ix2 1 x)) - Ideal.exp (∑ x, lv (ix2 2 x) * lv (ix2 3 x)) + Ideal.ofBits FTy.f32 1045220557#32) *
          Ideal.div (a (ix2 ⟨512 + r, by omega⟩ x)) (b (ix2 ⟨512 + r, by omega⟩ x))) (g (ix2 0 l)) l := by
  pointwise [k0_pay1, k0_pay96, k0_pay97, k0_pay98]
  unfold normed
  with_reducible rfl

/-- One tile of the result: the two softmax means of its rows, their difference with lambda, normed. -/
theorem tile (q : Fin 512 → Fin 128 → ℝ) (kk : Fin 8448 → Fin 128 → ℝ) (v : Fin 8448 → Fin 128 → ℝ) (lam : ℝ)
    (hq : ∀ r d, x2 (ix3 0 r d) = (q r d : EReal)) (hk : ∀ k d, x3 (ix3 0 k d) = (kk k d : EReal))
    (hv : ∀ k (l : Fin 128), x4 (ix3 0 k ⟨l, by omega⟩) = (v k l : EReal))
    (h1 : ∀ k (l : Fin 128), x4 (ix3 0 k ⟨128 + l, by omega⟩) = ((1 : ℝ) : EReal))
    (hlam : Ideal.exp (∑ x : Fin 128, x0 (ix2 0 x) * x0 (ix2 1 x)) - Ideal.exp (∑ x : Fin 128, x0 (ix2 2 x) * x0 (ix2 3 x)) +
      Ideal.ofBits FTy.f32 1045220557#32 = (lam : EReal)) (r : Fin 512) (l : Fin 128) :
    out0_A_5 c i arg3 harg3 arg4 harg4 arg5 harg5 arg6 harg6 arg7 harg7 arg8 harg8 arg9 harg9 arg10 harg10 arg11 harg11 arg12 harg12 arg13 harg13 x0 x1 x2 x3 x4 (ix3 0 r l) =
      normed (fun x => ((att (fun k => Real.log 2 * halfDot 0 (q r) (kk k)) (fun k => v k x) -
        lam * att (fun k => Real.log 2 * halfDot 1 (q r) (kk k)) (fun k => v k x) : ℝ) : EReal)) (x1 (ix2 0 l)) l := by
  let S : Fin 1024 → ℕ → ℝ := fun r => if h : r.val < 512 then onNat (fun k => halfDot 0 (q ⟨r, h⟩) (kk k))
    else onNat (fun k => halfDot 1 (q ⟨r - 512, by omega⟩) (kk k))
  have hSlo : ∀ r : Fin 512, S ⟨r, by omega⟩ = onNat (fun k => halfDot 0 (q r) (kk k)) := fun r => dif_pos r.isLt
  have hShi : ∀ r : Fin 512, S ⟨512 + r, by omega⟩ = onNat (fun k => halfDot 1 (q r) (kk k)) := fun r => by
    have h : ¬ (512 + r.val < 512) := by omega
    refine (dif_neg h).trans ?_
    have e : (⟨512 + r.val - 512, by omega⟩ : Fin 512) = r := Fin.ext (by simp)
    simp only [e]
  obtain ⟨m, hm⟩ := acc_inv (S := S) (V := fun l => onNat fun k => v k l) (W := fun l => onNat fun _ => 1) c arg5 harg5 arg6 harg6 arg7 harg7 arg9 arg10 arg11 arg12 arg13 x2 x3 x4
    (fun j r k => by
      rw [scoresOf_apply]
      simp only [kBlk_apply, hk]
      rcases lt_or_ge r.val 512 with h | h
      · have e := hSlo ⟨r, h⟩
        simp only at e
        rw [e, onNat_lt _ _ (by omega)]
        exact sum_lo _ (q ⟨r, h⟩) _ (fun d => by rw [← hq]; exact qzOf_lo x2 ⟨r, h⟩ d)
      · obtain ⟨r', rfl⟩ := hi_row r h
        rw [hShi, onNat_lt _ _ (by omega)]
        exact sum_hi _ (q r') _ (fun d => by rw [← hq]; exact qzOf_hi x2 r' d))
    (fun j k l => by rw [vBlk_apply, hv, onNat_lt _ _ (by omega)])
    (fun j k l => by rw [vBlk_apply, h1, onNat_lt _ _ (by omega)])
  rw [out_eq, store_apply, hlam]
  congr 1
  funext x
  obtain ⟨μ, hμ⟩ := hm ⟨r, by omega⟩
  obtain ⟨ν, hν⟩ := hm ⟨512 + r, by omega⟩
  rw [(hμ x).2.1, (hμ x).2.2, (hν x).2.1, (hν x).2.2, hSlo, hShi, quot, quot, EReal.coe_sub, EReal.coe_mul]

end Cert.KernelIdeal.Attn

end
-- ==== Proof.Attn.Blocks.lean ====
/-
  The attention call's input blocks as elements of the arguments: what each window holds at a grid point, and where its
  output block lies in the result.
-/
module

public import proofs.«01_k».proof.Proof.Gen.KernelIdeal.Value
public import proofs.«01_k».proof.Proof.Attn.Tile
public import Idealize.ShloMosaic.Lib.Pointwise
public import Idealize.ShloMosaic.Lib.Claim
public import Idealize.ShloMosaic.Lib.StableHlo.ReadAt
public import Idealize.ShloMosaic.Lib.Pipeline.ValueKit.Geometry

@[expose] public section

set_option maxRecDepth 16384
set_option maxHeartbeats 4000000

noncomputable section

namespace Cert.KernelIdeal.Attn

open Cert.KernelIdeal Cert.KernelIdeal.Gen Idealize.ShloMosaic Idealize.ShloMosaic.TcCoe Idealize.SL.Sem Cert.Attn

/-- The batch, the head and the query tile of a grid point. -/
def tb (t : Fin cfg0.N) : Fin 2 := ⟨(grid0.coords t 0).val, (grid0.coords t 0).isLt⟩
def th (t : Fin cfg0.N) : Fin 4 := ⟨(grid0.coords t 1).val, (grid0.coords t 1).isLt⟩
def ti (t : Fin cfg0.N) : Fin 16 := ⟨(grid0.coords t 2).val, (grid0.coords t 2).isLt⟩

theorem index0 : ∀ t : Fin cfg0.N, win0_0.index t = ![0, 0] :=
  (by decide +kernel : ∀ t : Fin grid0.N, win0_0.index t = ![0, 0])
theorem index1 : ∀ t : Fin cfg0.N, win0_1.index t = ![0, 0] :=
  (by decide +kernel : ∀ t : Fin grid0.N, win0_1.index t = ![0, 0])
theorem index2 : ∀ t : Fin cfg0.N, win0_2.index t = ![(tb t).val, (ti t).val, (th t).val] :=
  (by decide +kernel : ∀ t : Fin grid0.N, win0_2.index t = ![(grid0.coords t 0).val, (grid0.coords t 2).val, (grid0.coords t 1).val])
theorem index3 : ∀ t : Fin cfg0.N, win0_3.index t = ![(tb t).val, 0, (th t).val] :=
  (by decide +kernel : ∀ t : Fin grid0.N, win0_3.index t = ![(grid0.coords t 0).val, 0, (grid0.coords t 1).val])
theorem index4 : ∀ t : Fin cfg0.N, win0_4.index t = ![(tb t).val, 0, (th t).val] :=
  (by decide +kernel : ∀ t : Fin grid0.N, win0_4.index t = ![(grid0.coords t 0).val, 0, (grid0.coords t 1).val])
theorem index5 : ∀ t : Fin cfg0.N, win0_5.index t = ![(tb t).val, (ti t).val, (th t).val] :=
  (by decide +kernel : ∀ t : Fin grid0.N, win0_5.index t = ![(grid0.coords t 0).val, (grid0.coords t 2).val, (grid0.coords t 1).val])

variable (m : (ℓ : Loc nD τ sig) → Buf (Elt Ideal) ℓ) (c : Dev nD)

theorem q_entry (b : Fin 2) (r : Fin 8448) (d : Fin 512) : V m c main_v4 (ix3 b r d) = (HMul.hMul (α := EReal) (β := EReal) (γ := EReal) (m ((c : Thread nD τ).loc main_arg0) (ix3 b r d))
      (Ideal.div (Ideal.ofBits FTy.f32 1040187392#32) (Ideal.log (Ideal.ofBits FTy.f32 1073741824#32)))) := by
  unfold V
  after_reads_at

theorem k_entry (b : Fin 2) (r : Fin 8448) (d : Fin 512) : V m c main_v25 (ix3 b r d) = m ((c : Thread nD τ).loc main_arg1) (ix3 b r d) := by
  unfold V
  after_reads_at

theorem g_entry (l : Fin 128) : V m c main_v24 (ix2 0 l) = m ((c : Thread nD τ).loc main_arg7) (ix2 0 l) := by
  unfold V
  after_reads_at

/-- The values' array: head by head the head's lanes, then as many ones. -/
theorem v_entry (b : Fin 2) (r : Fin 8448) (h : Fin 4) (l : Fin 128) :
    V m c main_v11 (ix3 b r ⟨256 * h + l, by omega⟩) = m ((c : Thread nD τ).loc main_arg2) (ix3 b r ⟨128 * h + l, by omega⟩) := by
  unfold V
  after_reads_at
  after_reads_simp
  pointwise
  show _ = m (c, Proc.tc.devRef main_arg2) _
  generalize m (c, Proc.tc.devRef main_arg2) = A
  have hl := l.isLt
  have hh := h.isLt
  split_ifs <;> first | omega | exact congrArg A (congrArg (ix3 b r) (Fin.mk_eq_mk.mpr (by omega)))

theorem one_entry (b : Fin 2) (r : Fin 8448) (h : Fin 4) (l : Fin 128) :
    V m c main_v11 (ix3 b r ⟨256 * h + (128 + l), by omega⟩) = ((1 : ℝ) : EReal) := by
  unfold V
  after_reads_at
  after_reads_simp
  pointwise
  generalize m (c, Proc.tc.devRef main_arg2) = A
  have hl := l.isLt
  have hh := h.isLt
  split_ifs <;> first | omega | rfl

/-- One lambda vector over 128 lanes: zero beyond its own 64. -/
def lamRow (A : S1x64.Idx → EReal) (l : Fin 128) : EReal := if h : l.val < 64 then A (ix2 0 ⟨l.val, h⟩) else 0

theorem l_entry0 (l : Fin 128) : V m c main_v22 (ix2 0 l) = lamRow (m ((c : Thread nD τ).loc main_arg3)) l := by
  have h0 : (FloatOps.sitofp FTy.f32 (0#32) : Ideal .f32) = 0 := by simp [FloatOps.sitofp]
  unfold V
  after_reads_at
  after_reads_simp
  pointwise
  simp only [h0]
  unfold lamRow
  by_cases hl : l.val < 64
  · rw [dif_pos hl]
  · rw [dif_neg hl]

theorem l_entry1 (l : Fin 128) : V m c main_v22 (ix2 1 l) = lamRow (m ((c : Thread nD τ).loc main_arg4)) l := by
  have h0 : (FloatOps.sitofp FTy.f32 (0#32) : Ideal .f32) = 0 := by simp [FloatOps.sitofp]
  unfold V
  after_reads_at
  after_reads_simp
  pointwise
  simp only [h0]
  unfold lamRow
  by_cases hl : l.val < 64
  · rw [dif_pos hl]
  · rw [dif_neg hl]

theorem l_entry2 (l : Fin 128) : V m c main_v22 (ix2 2 l) = lamRow (m ((c : Thread nD τ).loc main_arg5)) l := by
  have h0 : (FloatOps.sitofp FTy.f32 (0#32) : Ideal .f32) = 0 := by simp [FloatOps.sitofp]
  unfold V
  after_reads_at
  after_reads_simp
  pointwise
  simp only [h0]
  unfold lamRow
  by_cases hl : l.val < 64
  · rw [dif_pos hl]
  · rw [dif_neg hl]

theorem l_entry3 (l : Fin 128) : V m c main_v22 (ix2 3 l) = lamRow (m ((c : Thread nD τ).loc main_arg6)) l := by
  have h0 : (FloatOps.sitofp FTy.f32 (0#32) : Ideal .f32) = 0 := by simp [FloatOps.sitofp]
  unfold V
  after_reads_at
  after_reads_simp
  pointwise
  simp only [h0]
  unfold lamRow
  by_cases hl : l.val < 64
  · rw [dif_pos hl]
  · rw [dif_neg hl]

/-- Where the blocks lie in their arrays. -/
theorem emb5 (t : Fin cfg0.N) (r : Fin 512) (l : Fin 128) : (win0_5.blk t).view.emb (ix3 0 r l) =
    ix3 (tb t) ⟨512 * (ti t).val + r.val, by have := (ti t).isLt; omega⟩ ⟨128 * (th t).val + l.val, by have := (th t).isLt; omega⟩ := by
  funext a; apply Fin.ext; fin_cases a <;> blk_simp [index5] <;> first | rfl | exact congrArg (· + _) (Nat.mul_comm _ _)

theorem q_blk (t : Fin cfg0.N) (r : Fin 512) (d : Fin 128) : X0_2 m c t (ix3 0 r d) =
    HMul.hMul (α := EReal) (β := EReal) (γ := EReal) (m ((c : Thread nD τ).loc main_arg0)
      (ix3 (tb t) ⟨512 * (ti t).val + r.val, by have := (ti t).isLt; omega⟩ ⟨128 * (th t).val + d.val, by have := (th t).isLt; omega⟩))
      (Ideal.div (Ideal.ofBits FTy.f32 1040187392#32) (Ideal.log (Ideal.ofBits FTy.f32 1073741824#32))) := by
  unfold X0_2 Pipeline.Window.fill
  rw [dif_pos (moved0_2 t _)]
  blk_simp [iblk]
  rw [← q_entry]
  refine congrArg (V m c main_v4) ?_
  funext a; apply Fin.ext; fin_cases a <;> blk_simp [index2] <;> first | rfl | exact congrArg (· + _) (Nat.mul_comm _ _)

theorem k_blk (t : Fin cfg0.N) (k : Fin 8448) (d : Fin 128) : iblk m c 3 t (ix3 0 k d) =
    m ((c : Thread nD τ).loc main_arg1) (ix3 (tb t) k ⟨128 * (th t).val + d.val, by have := (th t).isLt; omega⟩) := by
  blk_simp [iblk]
  refine Eq.trans (congrArg (V m c main_v25) ?_) (k_entry m c _ _ _)
  funext a; apply Fin.ext; fin_cases a <;> blk_simp [index3] <;> first | rfl | exact congrArg (· + _) (Nat.mul_comm _ _)

theorem v_blk (t : Fin cfg0.N) (k : Fin 8448) (l : Fin 128) : iblk m c 4 t (ix3 0 k ⟨l.val, by omega⟩) =
    m ((c : Thread nD τ).loc main_arg2) (ix3 (tb t) k ⟨128 * (th t).val + l.val, by have := (th t).isLt; omega⟩) := by
  blk_simp [iblk]
  refine Eq.trans (congrArg (V m c main_v11) ?_) (v_entry m c (tb t) k (th t) l)
  funext a; apply Fin.ext; fin_cases a <;> blk_simp [index4] <;> first | rfl | exact congrArg (· + _) (Nat.mul_comm _ _)

theorem one_blk (t : Fin cfg0.N) (k : Fin 8448) (l : Fin 128) : iblk m c 4 t (ix3 0 k ⟨128 + l.val, by omega⟩) = ((1 : ℝ) : EReal) := by
  blk_simp [iblk]
  rw [← one_entry m c (tb t) k (th t) l]
  refine congrArg (V m c main_v11) ?_
  funext a; apply Fin.ext; fin_cases a <;> blk_simp [index4] <;> first | rfl | exact congrArg (· + _) (Nat.mul_comm _ _)

theorem g_blk (t : Fin cfg0.N) (l : Fin 128) : iblk m c 1 t (ix2 0 l) = m ((c : Thread nD τ).loc main_arg7) (ix2 0 l) := by
  blk_simp [iblk]
  refine Eq.trans (congrArg (V m c main_v24) ?_) (g_entry m c l)
  funext a; apply Fin.ext; fin_cases a <;> blk_simp [index1] <;> rfl

theorem l_blk (t : Fin cfg0.N) (i : Fin 8) (l : Fin 128) : iblk m c 0 t (ix2 i l) = V m c main_v22 (ix2 i l) := by
  blk_simp [iblk]
  refine congrArg (V m c main_v22) ?_
  funext a; apply Fin.ext; fin_cases a <;> blk_simp [index0] <;> rfl

/-- The products of two padded vectors sum as the vectors' own do. -/
theorem sum_lamRow (A B : S1x64.Idx → EReal) : ∑ l : Fin 128, lamRow A l * lamRow B l = ∑ l : Fin 64, A (ix2 0 l) * B (ix2 0 l) := by
  rw [Fin.sum_univ_two_halves 64 64 (by norm_num)]
  have h1 : ∀ (A : S1x64.Idx → EReal) (d : Fin 64), lamRow A ⟨64 + d.val, by omega⟩ = 0 := fun A d => dif_neg (by simp)
  have h0 : ∀ (A : S1x64.Idx → EReal) (d : Fin 64), lamRow A ⟨d.val, by omega⟩ = A (ix2 0 d) := fun A d => dif_pos d.isLt
  simp only [h0, h1, zero_mul, Finset.sum_const_zero, add_zero]

/-- Lambda as the body reads it. -/
theorem lam_blk (t : Fin cfg0.N) :
    Ideal.exp (∑ x : Fin 128, HMul.hMul (α := EReal) (β := EReal) (γ := EReal) (iblk m c 0 t (ix2 0 x)) (iblk m c 0 t (ix2 1 x))) -
      Ideal.exp (∑ x : Fin 128, HMul.hMul (α := EReal) (β := EReal) (γ := EReal) (iblk m c 0 t (ix2 2 x)) (iblk m c 0 t (ix2 3 x))) +
      Ideal.ofBits FTy.f32 1045220557#32 =
    lamOf (fun k => m ((c : Thread nD τ).loc main_arg3) (ix2 0 k)) (fun k => m ((c : Thread nD τ).loc main_arg4) (ix2 0 k))
      (fun k => m ((c : Thread nD τ).loc main_arg5) (ix2 0 k)) (fun k => m ((c : Thread nD τ).loc main_arg6) (ix2 0 k)) := by
  have e1 := (Finset.sum_congr rfl fun x _ => congrArg₂ (HMul.hMul (α := EReal) (β := EReal) (γ := EReal))
    ((l_blk m c t 0 x).trans (l_entry0 m c x)) ((l_blk m c t 1 x).trans (l_entry1 m c x))).trans
    (sum_lamRow (m ((c : Thread nD τ).loc main_arg3)) (m ((c : Thread nD τ).loc main_arg4)))
  have e2 := (Finset.sum_congr rfl fun x _ => congrArg₂ (HMul.hMul (α := EReal) (β := EReal) (γ := EReal))
    ((l_blk m c t 2 x).trans (l_entry2 m c x)) ((l_blk m c t 3 x).trans (l_entry3 m c x))).trans
    (sum_lamRow (m ((c : Thread nD τ).loc main_arg5)) (m ((c : Thread nD τ).loc main_arg6)))
  rw [e1, e2]
  rfl

end Cert.KernelIdeal.Attn

end
-- ==== Proof.Attn.Ref.lean ====
/-
  The reference's result at one token, head and lane, over the reals: the difference of the two softmax means, normed.
-/
module

public import proofs.«01_k».proof.Proof.Gen.ReferenceIdeal.Read
public import proofs.«01_k».proof.Proof.Attn.Math
public import Idealize.ShloMosaic.Lib.Pointwise.Index

@[expose] public section

set_option maxRecDepth 16384

noncomputable section

namespace Cert.ReferenceIdeal.Attn

open Cert.ReferenceIdeal Cert.ReferenceIdeal.Gen Cert.ReferenceIdeal.Read Idealize.ShloMosaic Cert.Attn

variable (x0 x1 x2 : (⟨S2x8448x512, .f32⟩ : BufTy).Contents (Elt Ideal)) (x3 x4 x5 x6 : (⟨S1x64, .f32⟩ : BufTy).Contents (Elt Ideal))
  (x7 : (⟨S1x128, .f32⟩ : BufTy).Contents (Elt Ideal))

/-- A score before its scale is a product of a query's and a key's 64 lanes. -/
theorem v21_eq (b : Fin 2) (h : Fin 4) (m : Fin 2) (r : Fin 8192) (k : Fin 8448) :
    val_main_v21 (F := Ideal) x0 x1 (ix5 b h m r k) =
      (∑ x : Fin 64, x0 (ix3 b ⟨r, by omega⟩ ⟨128 * h + 64 * m + x, by omega⟩) * x1 (ix3 b k ⟨128 * h + 64 * m + x, by omega⟩)) *
        Ideal.ofBits .f32 1040187392#32 := by
  rw [val_main_v21_apply, val_main_v19_apply, val_main_v20_apply, val_main_cst_2_apply]
  simp only [val_main_v14_apply, val_main_v13_apply, val_main_v12_apply, val_main_v16_apply, val_main_v15_apply]
  refine congrArg (· * _) (Finset.sum_congr rfl fun x _ => ?_)
  refine congrArg₂ (· * ·) (congrArg x0 (funext fun a => Fin.ext ?_)) (congrArg x1 (funext fun a => Fin.ext ?_))
  · match a with
    | ⟨0, _⟩ => show ((((b.val * 8192 + r.val) * 4 + h.val) * 2 + m.val) * 64 + x.val) / 4194304 = b.val; omega
    | ⟨1, _⟩ => show ((((b.val * 8192 + r.val) * 4 + h.val) * 2 + m.val) * 64 + x.val) / 512 % 8192 = r.val; omega
    | ⟨2, _⟩ => show ((((b.val * 8192 + r.val) * 4 + h.val) * 2 + m.val) * 64 + x.val) % 512 = 128 * h.val + 64 * m.val + x.val; omega
  · match a with
    | ⟨0, _⟩ => show ((((b.val * 8448 + k.val) * 4 + h.val) * 2 + m.val) * 64 + x.val) / 4325376 = b.val; omega
    | ⟨1, _⟩ => show ((((b.val * 8448 + k.val) * 4 + h.val) * 2 + m.val) * 64 + x.val) / 512 % 8448 = k.val; omega
    | ⟨2, _⟩ => show ((((b.val * 8448 + k.val) * 4 + h.val) * 2 + m.val) * 64 + x.val) % 512 = 128 * h.val + 64 * m.val + x.val; omega

/-- The row maximum of finite scores is finite. -/
theorem v24_real (i : S2x4x2x8192.Idx) {S : S2x4x2x8192x8448.Idx → ℝ} (hS : ∀ j, val_main_v21 (F := Ideal) x0 x1 j = S j) :
    ∃ μ : ℝ, val_main_v24 (F := Ideal) x0 x1 i = μ := by
  have hb : FloatOps.ofBits (F := Ideal) .f32 0xFF800000#32 = (⊥ : EReal) := by
    show Ideal.ofBits .f32 0xFF800000#32 = ⊥
    simp [Ideal.ofBits, Ideal.ieee]
  have e : val_main_v24 (F := Ideal) x0 x1 i = max (⊥ : EReal) (val_main_v22 (F := Ideal) x0 x1 i) := by
    rw [val_main_v24_apply, val_main_v23_apply, val_main_cst_4_apply, hb, Ideal.maximumf_def]
  rw [e]
  unfold val_main_v22
  generalize hy : val_main_v21 (F := Ideal) x0 x1 = y
  rw [hy] at hS
  rw [Host.reduce_eq_fold_single _ y _ _ (by decide), val_main_cst_3_apply, hb]
  set f : Fin (S2x4x2x8192x8448.size 4) → EReal := (y ∘ _) with hf
  have hr : ∀ k, ∃ z : ℝ, f k = z := fun k => ⟨_, hS _⟩
  have h1 : Finset.fold max (⊥ : EReal) f Finset.univ < ⊤ := by
    rw [Finset.fold_max_lt]
    exact ⟨bot_lt_top, fun k _ => by obtain ⟨z, hz⟩ := hr k; rw [hz]; exact EReal.coe_lt_top z⟩
  have h2 : ⊥ < Finset.fold max (⊥ : EReal) f Finset.univ := by
    rw [Finset.lt_fold_max]
    exact .inr ⟨⟨0, by decide⟩, Finset.mem_univ _, by obtain ⟨z, hz⟩ := hr ⟨0, by decide⟩; rw [hz]; exact EReal.bot_lt_coe z⟩
  refine ⟨(Finset.fold max (⊥ : EReal) f Finset.univ).toReal, ?_⟩
  rw [EReal.coe_toReal h1.ne h2.ne']
  exact max_eq_right bot_le

/-- A softmax weight. -/
theorem v32_eq (b : Fin 2) (h : Fin 4) (m : Fin 2) (r : Fin 8192) (k : Fin 8448) :
    val_main_v32 (F := Ideal) x0 x1 (ix5 b h m r k) =
      Ideal.div (Ideal.exp (val_main_v21 (F := Ideal) x0 x1 (ix5 b h m r k) - val_main_v24 (F := Ideal) x0 x1 (ix4 b h m r)))
        (∑ x, Ideal.exp (val_main_v21 (F := Ideal) x0 x1 (ix5 b h m r x) - val_main_v24 (F := Ideal) x0 x1 (ix4 b h m r))) := by
  have hz : FloatOps.ofBits (F := Ideal) .f32 0x00000000#32 = (0 : EReal) := by
    show Ideal.ofBits .f32 0x00000000#32 = 0
    simp [Ideal.ofBits, Ideal.ieee]
  have i1 : ∀ k : Fin 8448, idx_main_v25 (idx_main_v26 (ix5 b h m r k)) = ix4 b h m r := fun k => by
    funext a; match a with | ⟨0, _⟩ => rfl | ⟨1, _⟩ => rfl | ⟨2, _⟩ => rfl | ⟨3, _⟩ => rfl
  have i2 : ∀ x : Fin 8448, idx_main_v29 (idx_main_v30 (idx_main_v31 (ix5 b h m r k))) x = ix5 b h m r x := fun x => by
    funext a; match a with | ⟨0, _⟩ => rfl | ⟨1, _⟩ => rfl | ⟨2, _⟩ => rfl | ⟨3, _⟩ => rfl | ⟨4, _⟩ => rfl
  have e : ∀ k : Fin 8448, val_main_v28 (F := Ideal) x0 x1 (ix5 b h m r k) =
      Ideal.exp (val_main_v21 (F := Ideal) x0 x1 (ix5 b h m r k) - val_main_v24 (F := Ideal) x0 x1 (ix4 b h m r)) := fun k => by
    rw [val_main_v28_apply, val_main_v27_apply, val_main_v26_apply, val_main_v25_apply, i1, Ideal.subf_def, Ideal.hostUnary_exp_def]
  rw [val_main_v32_apply, val_main_v31_apply, val_main_v30_apply, val_main_v29_apply, val_main_cst_5_apply, hz, zero_add, e]
  simp only [i2, e, Ideal.hostDivf_def]

/-- A sum over the 64 lanes of a vector. -/
theorem sum_lanes (f : S64.Idx → EReal) : ∑ j, f j = ∑ k : Fin 64, f (ix1 k) :=
  Fintype.sum_equiv ⟨fun j => (j 0 : Fin 64), ix1, fun j => by funext a; match a with | ⟨0, _⟩ => rfl, fun _ => rfl⟩ _ _ fun j => by
    refine congrArg f ?_
    funext a; match a with | ⟨0, _⟩ => rfl

theorem lane0 (k : Fin 64) : idx_main_v0 (ix1 k) = ix2 0 k := by
  funext a
  match a with
  | ⟨0, _⟩ => rfl
  | ⟨1, _⟩ => apply Fin.ext; show k.val % 64 = k.val; omega
theorem lane1 (k : Fin 64) : idx_main_v1 (ix1 k) = ix2 0 k := lane0 k
theorem lane5 (k : Fin 64) : idx_main_v5 (ix1 k) = ix2 0 k := lane0 k
theorem lane6 (k : Fin 64) : idx_main_v6 (ix1 k) = ix2 0 k := lane0 k

/-- The difference of the two maps' weights times the values. -/
theorem v40_eq (b : Fin 2) (h : Fin 4) (r : Fin 8192) (l : Fin 128) :
    val_main_v40 (F := Ideal) x0 x1 x2 x3 x4 x5 x6 (ix4 b h r l) =
      ∑ x : Fin 8448, (val_main_v32 (F := Ideal) x0 x1 (ix5 b h 0 r x) -
        lamOf (fun k => x3 (ix2 0 k)) (fun k => x4 (ix2 0 k)) (fun k => x5 (ix2 0 k)) (fun k => x6 (ix2 0 k)) *
          val_main_v32 (F := Ideal) x0 x1 (ix5 b h 1 r x)) * x2 (ix3 b x ⟨128 * h + l, by omega⟩) := by
  have hz : FloatOps.ofBits (F := Ideal) .f32 0x00000000#32 = (0 : EReal) := by
    show Ideal.ofBits .f32 0x00000000#32 = 0
    simp [Ideal.ofBits, Ideal.ieee]
  have i1 : ∀ x : Fin 8448, idx_main_v33 (idx_main_v34 (lidx_main_v40 (ix4 b h r l) x)) = ix5 b h 0 r x := fun x => by
    funext a
    match a with
    | ⟨0, _⟩ => apply Fin.ext; show (((b.val * 4 + h.val) * 8192 + r.val) * 8448 + x.val) / 276824064 = b.val; omega
    | ⟨1, _⟩ => apply Fin.ext; show (((b.val * 4 + h.val) * 8192 + r.val) * 8448 + x.val) / 69206016 % 4 = h.val; omega
    | ⟨2, _⟩ => rfl
    | ⟨3, _⟩ => apply Fin.ext; show (((b.val * 4 + h.val) * 8192 + r.val) * 8448 + x.val) / 8448 % 8192 = r.val; omega
    | ⟨4, _⟩ => apply Fin.ext; show (((b.val * 4 + h.val) * 8192 + r.val) * 8448 + x.val) % 8448 = x.val; omega
  have i2 : ∀ x : Fin 8448, idx_main_v35 (idx_main_v36 (lidx_main_v40 (ix4 b h r l) x)) = ix5 b h 1 r x := fun x => by
    funext a
    match a with
    | ⟨0, _⟩ => apply Fin.ext; show (((b.val * 4 + h.val) * 8192 + r.val) * 8448 + x.val) / 276824064 = b.val; omega
    | ⟨1, _⟩ => apply Fin.ext; show (((b.val * 4 + h.val) * 8192 + r.val) * 8448 + x.val) / 69206016 % 4 = h.val; omega
    | ⟨2, _⟩ => rfl
    | ⟨3, _⟩ => apply Fin.ext; show (((b.val * 4 + h.val) * 8192 + r.val) * 8448 + x.val) / 8448 % 8192 = r.val; omega
    | ⟨4, _⟩ => apply Fin.ext; show (((b.val * 4 + h.val) * 8192 + r.val) * 8448 + x.val) % 8448 = x.val; omega
  have i3 : ∀ x : Fin 8448, idx_main_v17 (idx_main_v18 (ridx_main_v40 (ix4 b h r l) x)) = ix3 b x ⟨128 * h + l, by omega⟩ := fun x => by
    funext a
    match a with
    | ⟨0, _⟩ => apply Fin.ext; show (((b.val * 8448 + x.val) * 4 + h.val) * 128 + l.val) / 4325376 = b.val; omega
    | ⟨1, _⟩ => apply Fin.ext; show (((b.val * 8448 + x.val) * 4 + h.val) * 128 + l.val) / 512 % 8448 = x.val; omega
    | ⟨2, _⟩ => apply Fin.ext; show (((b.val * 8448 + x.val) * 4 + h.val) * 128 + l.val) % 512 = 128 * h.val + l.val; omega
  have el : ∀ i, val_main_v11 (F := Ideal) x3 x4 x5 x6 i =
      lamOf (fun k => x3 (ix2 0 k)) (fun k => x4 (ix2 0 k)) (fun k => x5 (ix2 0 k)) (fun k => x6 (ix2 0 k)) := fun i => by
    rw [val_main_v11_apply, val_main_v10_apply, val_main_v4_apply, val_main_v9_apply, val_main_v3_apply, val_main_v8_apply,
      val_main_cst_apply, val_main_cst_0_apply, val_main_cst_1_apply, hz, zero_add, zero_add]
    unfold lamOf
    rw [Ideal.addf_def, Ideal.subf_def, Ideal.hostUnary_exp_def, Ideal.hostUnary_exp_def, Ideal.ofBits_def]
    rw [sum_lanes, sum_lanes]
    simp -implicitDefEqProofs only [val_main_v2_apply, val_main_v0_apply, val_main_v1_apply, val_main_v7_apply, val_main_v5_apply,
      val_main_v6_apply, lane0, lane1, lane5, lane6, Ideal.mulf_def]
  rw [val_main_v40_apply]
  refine Finset.sum_congr rfl fun x _ => ?_
  rw [val_main_v39_apply, val_main_v38_apply, val_main_v37_apply, val_main_v36_apply, val_main_v35_apply, val_main_v34_apply,
    val_main_v33_apply, val_main_v18_apply, val_main_v17_apply, i1, i2, i3, el, Ideal.subf_def, Ideal.mulf_def]

/-- The result: the head's row normed. -/
theorem v59_eq (b : Fin 2) (r : Fin 8192) (h : Fin 4) (l : Fin 128) :
    val_main_v59 (F := Ideal) x0 x1 x2 x3 x4 x5 x6 x7 (ix3 b r ⟨128 * h + l, by omega⟩) =
      normed (fun x => val_main_v40 (F := Ideal) x0 x1 x2 x3 x4 x5 x6 (ix4 b h r x)) (x7 (ix2 0 l)) l := by
  have hz : FloatOps.ofBits (F := Ideal) .f32 0x00000000#32 = (0 : EReal) := by
    show Ideal.ofBits .f32 0x00000000#32 = 0
    simp [Ideal.ofBits, Ideal.ieee]
  have i0 : idx_main_v58 (ix3 b r ⟨128 * h + l, by omega⟩) = ix4 b r h l := by
    funext a
    match a with
    | ⟨0, _⟩ => apply Fin.ext; show ((b.val * 8192 + r.val) * 512 + (128 * h.val + l.val)) / 4194304 = b.val; omega
    | ⟨1, _⟩ => apply Fin.ext; show ((b.val * 8192 + r.val) * 512 + (128 * h.val + l.val)) / 512 % 8192 = r.val; omega
    | ⟨2, _⟩ => apply Fin.ext; show ((b.val * 8192 + r.val) * 512 + (128 * h.val + l.val)) / 128 % 4 = h.val; omega
    | ⟨3, _⟩ => apply Fin.ext; show ((b.val * 8192 + r.val) * 512 + (128 * h.val + l.val)) % 128 = l.val; omega
  have i1 : ∀ l : Fin 128, idx_main_v41 (ix4 b r h l) = ix4 b h r l := fun l => by
    funext a; match a with | ⟨0, _⟩ => rfl | ⟨1, _⟩ => rfl | ⟨2, _⟩ => rfl | ⟨3, _⟩ => rfl
  have i2 : ∀ x : Fin 128, idx_main_v43 (idx_main_v44 (idx_main_v50 (ix4 b r h l))) x = ix4 b r h x := fun x => by
    funext a; match a with | ⟨0, _⟩ => rfl | ⟨1, _⟩ => rfl | ⟨2, _⟩ => rfl | ⟨3, _⟩ => rfl
  have i3 : idx_main_v52 (idx_main_v53 (idx_main_v54 (ix4 b r h l))) = ix2 0 l := by
    funext a
    match a with
    | ⟨0, _⟩ => rfl
    | ⟨1, _⟩ => apply Fin.ext; show l.val % 128 = l.val; omega
  rw [val_main_v59_apply, val_main_v58_apply, i0, val_main_v57_apply, val_main_v56_apply, val_main_cst_9_apply, val_main_v55_apply,
    val_main_v54_apply, val_main_v53_apply, val_main_v52_apply, i3, val_main_v51_apply, val_main_v41_apply, i1, val_main_v50_apply,
    val_main_v49_apply, val_main_v48_apply, val_main_v47_apply, val_main_cst_8_apply, val_main_v46_apply, val_main_v45_apply,
    val_main_cst_7_apply, val_main_v44_apply, val_main_v43_apply, val_main_cst_6_apply, hz, zero_add]
  unfold normed
  simp -implicitDefEqProofs only [i2, val_main_v42_apply, val_main_v41_apply, i1, Ideal.addf_def, Ideal.mulf_def, Ideal.hostUnary_rsqrt_def,
    Ideal.ofBits_def, Ideal.truncf_def, Ideal.hostDivf_def]

/-- The result in reals: each head's difference of the two softmax means, normed. -/
theorem result {X0 X1 X2 : S2x8448x512.Idx → ℝ} (h0 : ∀ i, x0 i = X0 i) (h1 : ∀ i, x1 i = X1 i) (h2 : ∀ i, x2 i = X2 i) {μ : ℝ}
    (hμ : lamOf (fun k => x3 (ix2 0 k)) (fun k => x4 (ix2 0 k)) (fun k => x5 (ix2 0 k)) (fun k => x6 (ix2 0 k)) = μ)
    (b : Fin 2) (r : Fin 8192) (h : Fin 4) (l : Fin 128) :
    val_main_v59 (F := Ideal) x0 x1 x2 x3 x4 x5 x6 x7 (ix3 b r ⟨128 * h + l, by omega⟩) =
      normed (fun x =>
        ((att (fun k => (∑ d : Fin 64, X0 (ix3 b ⟨r, by omega⟩ ⟨128 * h + 64 * (0 : Fin 2) + d, by omega⟩) * X1 (ix3 b k ⟨128 * h + 64 * (0 : Fin 2) + d, by omega⟩)) * (1 / 8))
            (fun k => X2 (ix3 b k ⟨128 * h + x, by omega⟩)) -
          μ * att (fun k => (∑ d : Fin 64, X0 (ix3 b ⟨r, by omega⟩ ⟨128 * h + 64 * (1 : Fin 2) + d, by omega⟩) * X1 (ix3 b k ⟨128 * h + 64 * (1 : Fin 2) + d, by omega⟩)) * (1 / 8))
            (fun k => X2 (ix3 b k ⟨128 * h + x, by omega⟩)) : ℝ) : EReal)) (x7 (ix2 0 l)) l := by
  rw [v59_eq]
  congr 1
  funext x
  have h8 : Ideal.ofBits .f32 1040187392#32 = ((1 / 8 : ℝ) : EReal) := by
    simp [Ideal.ofBits, Ideal.ieee, -EReal.coe_mul]; norm_num
  have hs : ∀ (m : Fin 2) (k : Fin 8448), val_main_v21 (F := Ideal) x0 x1 (ix5 b h m r k) =
      (((∑ d : Fin 64, X0 (ix3 b ⟨r, by omega⟩ ⟨128 * h + 64 * m + d, by omega⟩) * X1 (ix3 b k ⟨128 * h + 64 * m + d, by omega⟩)) * (1 / 8) : ℝ) : EReal) := fun m k => by
    rw [v21_eq, h8, EReal.coe_mul, coe_sum]
    simp only [h0, h1, EReal.coe_mul]
  have hS : ∀ j, ∃ z : ℝ, val_main_v21 (F := Ideal) x0 x1 j = z := fun j => by
    obtain ⟨b, h, m, r, k, rfl⟩ : ∃ (b : Fin 2) (h : Fin 4) (m : Fin 2) (r : Fin 8192) (k : Fin 8448), j = ix5 b h m r k :=
      ⟨j 0, j 1, j 2, j 3, j 4, by
        funext a; match a with | ⟨0, _⟩ => rfl | ⟨1, _⟩ => rfl | ⟨2, _⟩ => rfl | ⟨3, _⟩ => rfl | ⟨4, _⟩ => rfl⟩
    rw [v21_eq, h8]
    simp only [h0, h1, ← EReal.coe_mul]
    rw [← coe_sum, ← EReal.coe_mul]
    exact ⟨_, rfl⟩
  choose S hS using hS
  have hw : ∀ (m : Fin 2) (k : Fin 8448), val_main_v32 (F := Ideal) x0 x1 (ix5 b h m r k) = _ := fun m k => by
    obtain ⟨ν, hν⟩ := v24_real x0 x1 (ix4 b h m r) hS
    rw [v32_eq, hν]
    simp only [hs]
    exact weight _ ν k
  rw [v40_eq, hμ]
  simp only [hw, h2]
  rw [← diff_att, coe_sum]
  refine Finset.sum_congr rfl fun k _ => ?_
  rw [EReal.coe_mul, EReal.coe_sub, EReal.coe_mul]

end Cert.ReferenceIdeal.Attn

end
-- ==== Proof.Attn.Value.lean ====
/-
  The attention call's result array is the reference's, for finite arguments.
-/
module

public import proofs.«01_k».proof.Proof.Attn.Blocks
public import proofs.«01_k».proof.Proof.Attn.Ref

@[expose] public section

set_option maxRecDepth 16384

noncomputable section

namespace Cert.KernelIdeal.Attn

open Cert.KernelIdeal Cert.KernelIdeal.Gen Idealize.ShloMosaic Idealize.ShloMosaic.TcCoe Idealize.SL.Sem Cert.Attn

/-- The factor on the queries: an eighth, in units of log 2. -/
theorem qscale : Ideal.div (Ideal.ofBits FTy.f32 1040187392#32) (Ideal.log (Ideal.ofBits FTy.f32 1073741824#32)) =
    ((1 / 8 / Real.log 2 : ℝ) : EReal) := by
  have h8 : Ideal.ofBits .f32 1040187392#32 = ((1 / 8 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  have hl : Real.log 2 ≠ 0 := (Real.log_pos (by norm_num)).ne'
  rw [h8, h2, Ideal.log_coe, if_neg (by norm_num), Ideal.div_coe hl, ← EReal.coe_mul]
  congr 1
  ring

/-- The score in the kernel's units, times log 2, is the reference's score. -/
theorem score (e : Fin 2) (a k : Fin 128 → ℝ) :
    Real.log 2 * halfDot e (fun d => a d * (1 / 8 / Real.log 2)) k =
      (∑ d : Fin 64, a ⟨64 * e.val + d.val, by omega⟩ * k ⟨64 * e.val + d.val, by omega⟩) * (1 / 8) := by
  have hl : Real.log 2 ≠ 0 := (Real.log_pos (by norm_num)).ne'
  unfold halfDot
  rw [Finset.mul_sum, Finset.sum_mul]
  refine Finset.sum_congr rfl fun d _ => ?_
  field_simp

variable (m : (ℓ : Loc nD τ sig) → Buf (Elt Ideal) ℓ) (c : Dev nD)

theorem arr_eq {X0 X1 X2 : S2x8448x512.Idx → ℝ} {L3 L4 L5 L6 : S1x64.Idx → ℝ}
    (h0 : ∀ i, m ((c : Thread nD τ).loc main_arg0) i = (X0 i : EReal)) (h1 : ∀ i, m ((c : Thread nD τ).loc main_arg1) i = (X1 i : EReal))
    (h2 : ∀ i, m ((c : Thread nD τ).loc main_arg2) i = (X2 i : EReal)) (h3 : ∀ i, m ((c : Thread nD τ).loc main_arg3) i = (L3 i : EReal))
    (h4 : ∀ i, m ((c : Thread nD τ).loc main_arg4) i = (L4 i : EReal)) (h5 : ∀ i, m ((c : Thread nD τ).loc main_arg5) i = (L5 i : EReal))
    (h6 : ∀ i, m ((c : Thread nD τ).loc main_arg6) i = (L6 i : EReal)) :
    (dats m 0 c).arrAt 5 cfg0.N = Cert.ReferenceIdeal.Read.val_main_v59 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 5 _ (by decide +kernel) fun t hf y => ?_
  blk_simp
  rw [after0_5]
  obtain ⟨r, l, rfl⟩ : ∃ (r : Fin 512) (l : Fin 128), y = ix3 0 r l := by
    refine ⟨y 1, y 2, ?_⟩
    funext a
    match a with
    | ⟨0, _⟩ => exact Fin.ext (by have : (y 0).val < 1 := (y 0).isLt; show (y 0).val = 0; omega)
    | ⟨1, _⟩ => rfl
    | ⟨2, _⟩ => rfl
  obtain ⟨lam, hlam⟩ := lamOf_real (fun k => h3 (ix2 0 k)) (fun k => h4 (ix2 0 k)) (fun k => h5 (ix2 0 k)) (fun k => h6 (ix2 0 k))
  have hi := (ti t).isLt
  have hh := (th t).isLt
  have hr := r.isLt
  rw [emb5]
  refine Eq.trans ?_ (Cert.ReferenceIdeal.Attn.result _ _ _ _ _ _ _ _ h0 h1 h2 hlam (tb t) ⟨512 * (ti t).val + r.val, by omega⟩ (th t) l).symm
  unfold outsAt0
  refine (tile _ _ _ _ _ _ _ _ _ _ _ _ _ _ _ _ _ _ _ _ _ _ _ _ _ _ _ _ _
    (fun r d => X0 (ix3 (tb t) ⟨512 * (ti t).val + r.val, by omega⟩ ⟨128 * (th t).val + d.val, by omega⟩) * (1 / 8 / Real.log 2))
    (fun k d => X1 (ix3 (tb t) k ⟨128 * (th t).val + d.val, by omega⟩))
    (fun k l => X2 (ix3 (tb t) k ⟨128 * (th t).val + l.val, by omega⟩)) lam
    (fun r d => by rw [q_blk, h0, qscale, ← EReal.coe_mul]) (fun k d => by rw [k_blk, h1]) (fun k l => by rw [v_blk, h2])
    (fun k l => one_blk m c t k l) ((lam_blk m c t).trans hlam) r l).trans ?_
  rw [g_blk]
  congr 1
  funext x
  simp only [score, Nat.add_assoc]

end Cert.KernelIdeal.Attn

end
-- ==== Proof.Attn.Finite.lean ====
/-
  The precondition, read at an element: an argument array whose absolute values all lie below infinity is real.
-/
module

public import proofs.«01_k».proof.Defs
public import Idealize.ShloMosaic.Lib.Pointwise

@[expose] public section

set_option maxRecDepth 16384

noncomputable section

namespace Cert.Pre_finite_inputs

open Idealize.ShloMosaic

/-- The predicate's side conditions. -/
theorem facts : Facts where
  bcast_S_S2x8448x512 := by decide
  bcast_S_S1x64 := by decide

/-- A value whose absolute value is below infinity is real. -/
theorem real_of_lt (x : EReal) (h : BitVec.ofBool (decide (max x (-x) < Ideal.ofBits .f32 2139095040#32)) = 1#1) : ∃ r : ℝ, x = r := by
  have ht : Ideal.ofBits .f32 2139095040#32 = ⊤ := by simp [Ideal.ofBits, Ideal.ieee]
  rw [ht] at h
  have hlt : max x (-x) < ⊤ := by
    by_contra hn
    rw [decide_eq_false hn] at h
    exact absurd h (by decide)
  have h1 : x ≠ ⊤ := fun e => by rw [e] at hlt; exact absurd hlt (by simp)
  have h2 : x ≠ ⊥ := fun e => by rw [e] at hlt; exact absurd hlt (by simp)
  exact ⟨_, (EReal.coe_toReal h1 h2).symm⟩

/-- An array that passes the test is real throughout. -/
theorem real_of_test {s : Shape} (hb : S_.BroadcastsInDim s (![] : Fin 0 → Fin s.rank)) (x : FVec Ideal s .f32)
    (h : cmpf .olt (Host.absf x) (broadcastInDim s ![] hb (constant (F := Ideal) S_ .f32 0x7F800000#32)) = fun _ => 1#1) :
    ∃ X : s.Idx → ℝ, ∀ i, x i = (X i : EReal) := by
  have h' : ∀ i, ∃ r : ℝ, (x i : EReal) = r := fun i => real_of_lt (x i) (congrFun h i)
  choose X hX using h'
  exact ⟨X, hX⟩

end Cert.Pre_finite_inputs

end
-- ==== Proof.lean ====
/-
  The claims of the attention call, of the experts' call and of the projection before the recurrence: the programs' runs,
  and the equality of their results.
-/
module

public import proofs.«01_k».proof.Proof.Moe.Claims
public import proofs.«01_k».proof.Proof.Proj.Claims
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Value
public import proofs.«01_k».proof.Proof.Attn.Finite
public import Idealize.ShloMosaic.Adequacy
public import Idealize.ShloMosaic.Init

@[expose] public section

noncomputable section

namespace Cert.Proof

open Idealize.ShloMosaic Idealize.SL.Sem

/-- The reference runs and leaves its arguments and every counter as they were. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

attribute [local instance] Cert.Pre_finite_inputs.facts

/-- The attention call computes the reference's result over the reals. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hpre hagree
  refine ⟨fun c => (Cert.KernelIdeal.Gen.dats m 0 c).arrAt 5 Cert.KernelIdeal.cfg0.N, Cert.KernelIdeal.Value.run_blocks m g, ?_⟩
  refine (θ_run _ _ _).mono (fun r h c => ?_) (Cert.ReferenceIdeal.Value.run m' g')
  refine ⟨(h c).1.trans ?_, (h c).2⟩
  obtain ⟨e0, e1, e2, e3, e4, e5, e6, e7⟩ := hagree c
  obtain ⟨p0, p1, p2, p3, p4, p5, p6⟩ := hpre c
  obtain ⟨X0, h0⟩ := Cert.Pre_finite_inputs.real_of_test _ _ p0
  obtain ⟨X1, h1⟩ := Cert.Pre_finite_inputs.real_of_test _ _ p1
  obtain ⟨X2, h2⟩ := Cert.Pre_finite_inputs.real_of_test _ _ p2
  obtain ⟨L3, h3⟩ := Cert.Pre_finite_inputs.real_of_test _ _ p3
  obtain ⟨L4, h4⟩ := Cert.Pre_finite_inputs.real_of_test _ _ p4
  obtain ⟨L5, h5⟩ := Cert.Pre_finite_inputs.real_of_test _ _ p5
  obtain ⟨L6, h6⟩ := Cert.Pre_finite_inputs.real_of_test _ _ p6
  rw [Cert.ReferenceIdeal.Read.val_main_v59_eq, e0, e1, e2, e3, e4, e5, e6, e7]
  exact (Cert.KernelIdeal.Attn.arr_eq m c h0 h1 h2 h3 h4 h5 h6).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite_inputs.facts,
  fun m g _ => Cert.Kernel.Gen.frame m g, fun m g _ => Cert.KernelIdeal.Gen.frame m g, fun m g _ => Cert.KernelIdeal.Gen.frame m g,
  frame_reference, fun m g _ => frame_reference m g trivial, Cert.Moe.frame_kernel, Cert.Moe.frame_kernel_ideal, Cert.Moe.frame_reference,
  fun m g _ => Cert.Kernel3.Gen.frame m g, fun m g _ => Cert.Kernel3Ideal.Gen.frame m g, Cert.Proj.frame_reference,
  trivial, algebraic, trivial, Cert.Moe.algebraic, trivial, Cert.Proj.algebraic⟩

end Cert.Proof

end
